-- ==== Defs.lean ====
def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite_qk [hPre_finite_qk : Cert.Pre_finite_qk.Facts] (m : (ℓ : Loc Cert.AttIdeal.nD Cert.AttIdeal.τ Cert.AttIdeal.sig) → Buf (Elt Ideal) ℓ) : Prop :=
  ∀ c : Dev Cert.AttIdeal.nD,
    (Cert.Pre_finite_qk.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_finite_qk [hPre_finite_qk : Cert.Pre_finite_qk.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_finite_qk.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_scores [hPre_finite_scores : Cert.Pre_finite_scores.Facts] (m : (ℓ : Loc Cert.CrossIdeal.nD Cert.CrossIdeal.τ Cert.CrossIdeal.sig) → Buf (Elt Ideal) ℓ) : Prop :=
  ∀ c : Dev Cert.CrossIdeal.nD,
    (Cert.Pre_finite_scores.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_scores [hPre_finite_scores : Cert.Pre_finite_scores.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_scores.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5))) = (fun _ => 1#1)

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Rot (m : (ℓ : Loc Cert.Rot.nD Cert.Rot.τ Cert.Rot.sig) → Buf (Elt Bits) ℓ) : Prop :=
  True

def Pre_RotIdeal (m : (ℓ : Loc Cert.RotIdeal.nD Cert.RotIdeal.τ Cert.RotIdeal.sig) → Buf (Elt Ideal) ℓ) : Prop :=
  True

def Pre_RotRefIdeal (m : (ℓ : Loc Cert.RotRefIdeal.nD Cert.RotRefIdeal.τ Cert.RotRefIdeal.sig) → Buf (Elt Ideal) ℓ) : Prop :=
  True

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2)
      ∧ r.2.mem ((c.tc : Thread Cert.Att.nD Cert.Att.τ).loc Cert.Att.main_arg3) = m ((c.tc : Thread Cert.Att.nD Cert.Att.τ).loc Cert.Att.main_arg3))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ r.2.sem = fun _ => 0)

def quiescent_AttIdeal_pre_finite_qk [hAttIdeal : Cert.AttIdeal.Facts] [hPre_finite_qk : Cert.Pre_finite_qk.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite_qk m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3))
      ∧ r.2.sem = fun _ => 0)

def quiescent_AttRefIdeal_pre_finite_qk [hAttRefIdeal : Cert.AttRefIdeal.Facts] [hPre_finite_qk : Cert.Pre_finite_qk.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_finite_qk m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ r.2.sem = fun _ => 0)

def quiescent_CrossIdeal_pre_finite_scores [hCrossIdeal : Cert.CrossIdeal.Facts] [hPre_finite_scores : Cert.Pre_finite_scores.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_scores m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5))
      ∧ r.2.sem = fun _ => 0)

def quiescent_CrossRefIdeal_pre_finite_scores [hCrossRefIdeal : Cert.CrossRefIdeal.Facts] [hPre_finite_scores : Cert.Pre_finite_scores.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_scores m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5))
      ∧ r.2.sem = fun _ => 0)

def quiescent_Rot [hRot : Cert.Rot.Facts] : Prop :=
  ∀ (m : (ℓ : Loc Cert.Rot.nD Cert.Rot.τ Cert.Rot.sig) → Buf (Elt Bits) ℓ) (g : Dev Cert.Rot.nD → PrngReg), Pre_Rot m →
    θ_run (Cert.Rot.defs (F := Bits)) (onTc (τ := Cert.Rot.τ) (Cert.Rot.main (F := Bits))) ⟨m, fun _ => 0, g⟩ (fun r => (∀ c : Dev Cert.Rot.nD,
      r.2.mem ((c.tc : Thread Cert.Rot.nD Cert.Rot.τ).loc Cert.Rot.main_arg0) = m ((c.tc : Thread Cert.Rot.nD Cert.Rot.τ).loc Cert.Rot.main_arg0)
      ∧ r.2.mem ((c.tc : Thread Cert.Rot.nD Cert.Rot.τ).loc Cert.Rot.main_arg1) = m ((c.tc : Thread Cert.Rot.nD Cert.Rot.τ).loc Cert.Rot.main_arg1))
      ∧ r.2.sem = fun _ => 0)

def quiescent_RotIdeal [hRotIdeal : Cert.RotIdeal.Facts] : Prop :=
  ∀ (m : (ℓ : Loc Cert.RotIdeal.nD Cert.RotIdeal.τ Cert.RotIdeal.sig) → Buf (Elt Ideal) ℓ) (g : Dev Cert.RotIdeal.nD → PrngReg), Pre_RotIdeal m →
    θ_run (Cert.RotIdeal.defs (F := Ideal)) (onTc (τ := Cert.RotIdeal.τ) (Cert.RotIdeal.main (F := Ideal))) ⟨m, fun _ => 0, g⟩ (fun r => (∀ c : Dev Cert.RotIdeal.nD,
      r.2.mem ((c.tc : Thread Cert.RotIdeal.nD Cert.RotIdeal.τ).loc Cert.RotIdeal.main_arg0) = m ((c.tc : Thread Cert.RotIdeal.nD Cert.RotIdeal.τ).loc Cert.RotIdeal.main_arg0)
      ∧ r.2.mem ((c.tc : Thread Cert.RotIdeal.nD Cert.RotIdeal.τ).loc Cert.RotIdeal.main_arg1) = m ((c.tc : Thread Cert.RotIdeal.nD Cert.RotIdeal.τ).loc Cert.RotIdeal.main_arg1))
      ∧ r.2.sem = fun _ => 0)

def quiescent_RotRefIdeal [hRotRefIdeal : Cert.RotRefIdeal.Facts] : Prop :=
  ∀ (m : (ℓ : Loc Cert.RotRefIdeal.nD Cert.RotRefIdeal.τ Cert.RotRefIdeal.sig) → Buf (Elt Ideal) ℓ) (g : Dev Cert.RotRefIdeal.nD → PrngReg), Pre_RotRefIdeal m →
    θ_run (Cert.RotRefIdeal.defs (F := Ideal)) (onTc (τ := Cert.RotRefIdeal.τ) (Cert.RotRefIdeal.main (F := Ideal))) ⟨m, fun _ => 0, g⟩ (fun r => (∀ c : Dev Cert.RotRefIdeal.nD,
      r.2.mem ((c.tc : Thread Cert.RotRefIdeal.nD Cert.RotRefIdeal.τ).loc Cert.RotRefIdeal.main_arg0) = m ((c.tc : Thread Cert.RotRefIdeal.nD Cert.RotRefIdeal.τ).loc Cert.RotRefIdeal.main_arg0)
      ∧ r.2.mem ((c.tc : Thread Cert.RotRefIdeal.nD Cert.RotRefIdeal.τ).loc Cert.RotRefIdeal.main_arg1) = m ((c.tc : Thread Cert.RotRefIdeal.nD Cert.RotRefIdeal.τ).loc Cert.RotRefIdeal.main_arg1))
      ∧ r.2.sem = fun _ => 0)

def preserves_Att_AttIdeal : Prop :=
  True

def algebraic_AttIdeal_AttRefIdeal_pre_finite_qk [hAttIdeal : Cert.AttIdeal.Facts] [hAttRefIdeal : Cert.AttRefIdeal.Facts] [hPre_finite_qk : Cert.Pre_finite_qk.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_finite_qk m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)
      ∧ m' ((c.tc : Thread Cert.AttRefIdeal.nD Cert.AttRefIdeal.τ).loc Cert.AttRefIdeal.main_arg3) = m ((c.tc : Thread Cert.AttIdeal.nD Cert.AttIdeal.τ).loc Cert.AttIdeal.main_arg3)) →
    ∃ (v0 : (c : Dev Cert.AttIdeal.nD) → Buf (Elt Ideal) ((c.tc : Thread Cert.AttIdeal.nD Cert.AttIdeal.τ).loc Cert.AttIdeal.main_v16)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v16) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
          ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v23) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2)
          ∧ r.2.mem ((c.tc : Thread Cert.AttRefIdeal.nD Cert.AttRefIdeal.τ).loc Cert.AttRefIdeal.main_arg3) = m' ((c.tc : Thread Cert.AttRefIdeal.nD Cert.AttRefIdeal.τ).loc Cert.AttRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_v33) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v11_0)) (v1 : (c : Dev Cert.MergeIdeal.nD) → Buf (Elt Ideal) ((c.tc : Thread Cert.MergeIdeal.nD Cert.MergeIdeal.τ).loc Cert.MergeIdeal.main_v11_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v11_0) = v0 c
          ∧ r.2.mem ((c.tc : Thread Cert.MergeIdeal.nD Cert.MergeIdeal.τ).loc Cert.MergeIdeal.main_v11_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v43) = v0 c
          ∧ r.2.mem ((c.tc : Thread Cert.MergeRefIdeal.nD Cert.MergeRefIdeal.τ).loc Cert.MergeRefIdeal.main_v44) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Cross_CrossIdeal : Prop :=
  True

def algebraic_CrossIdeal_CrossRefIdeal_pre_finite_scores [hCrossIdeal : Cert.CrossIdeal.Facts] [hCrossRefIdeal : Cert.CrossRefIdeal.Facts] [hPre_finite_scores : Cert.Pre_finite_scores.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_scores m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)) →
    ∃ (v0 : (c : Dev Cert.CrossIdeal.nD) → Buf (Elt Ideal) ((c.tc : Thread Cert.CrossIdeal.nD Cert.CrossIdeal.τ).loc Cert.CrossIdeal.main_v6_0)) (v1 : (c : Dev Cert.CrossIdeal.nD) → Buf (Elt Ideal) ((c.tc : Thread Cert.CrossIdeal.nD Cert.CrossIdeal.τ).loc Cert.CrossIdeal.main_v6_1)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v6_0) = v0 c
          ∧ r.2.mem ((c.tc : Thread Cert.CrossIdeal.nD Cert.CrossIdeal.τ).loc Cert.CrossIdeal.main_v6_1) = v1 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v50) = v0 c
          ∧ r.2.mem ((c.tc : Thread Cert.CrossRefIdeal.nD Cert.CrossRefIdeal.τ).loc Cert.CrossRefIdeal.main_v51) = v1 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v3)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v3) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v2) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v8_0)) (v1 : (c : Dev Cert.MidIdeal.nD) → Buf (Elt Ideal) ((c.tc : Thread Cert.MidIdeal.nD Cert.MidIdeal.τ).loc Cert.MidIdeal.main_v8_1)) (v2 : (c : Dev Cert.MidIdeal.nD) → Buf (Elt Ideal) ((c.tc : Thread Cert.MidIdeal.nD Cert.MidIdeal.τ).loc Cert.MidIdeal.main_v8_2)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v8_0) = v0 c
          ∧ r.2.mem ((c.tc : Thread Cert.MidIdeal.nD Cert.MidIdeal.τ).loc Cert.MidIdeal.main_v8_1) = v1 c
          ∧ r.2.mem ((c.tc : Thread Cert.MidIdeal.nD Cert.MidIdeal.τ).loc Cert.MidIdeal.main_v8_2) = v2 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v65) = v0 c
          ∧ r.2.mem ((c.tc : Thread Cert.MidRefIdeal.nD Cert.MidRefIdeal.τ).loc Cert.MidRefIdeal.main_v67) = v1 c
          ∧ r.2.mem ((c.tc : Thread Cert.MidRefIdeal.nD Cert.MidRefIdeal.τ).loc Cert.MidRefIdeal.main_v70) = v2 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5))

def preserves_Rot_RotIdeal : Prop :=
  True

def algebraic_RotIdeal_RotRefIdeal [hRotIdeal : Cert.RotIdeal.Facts] [hRotRefIdeal : Cert.RotRefIdeal.Facts] : Prop :=
  ∀ (m : (ℓ : Loc Cert.RotIdeal.nD Cert.RotIdeal.τ Cert.RotIdeal.sig) → Buf (Elt Ideal) ℓ) (g : Dev Cert.RotIdeal.nD → PrngReg)
    (m' : (ℓ : Loc Cert.RotRefIdeal.nD Cert.RotRefIdeal.τ Cert.RotRefIdeal.sig) → Buf (Elt Ideal) ℓ) (g' : Dev Cert.RotRefIdeal.nD → PrngReg), Pre_RotIdeal m →
    (∀ c : Dev Cert.RotIdeal.nD,
      m' ((c.tc : Thread Cert.RotRefIdeal.nD Cert.RotRefIdeal.τ).loc Cert.RotRefIdeal.main_arg0) = m ((c.tc : Thread Cert.RotIdeal.nD Cert.RotIdeal.τ).loc Cert.RotIdeal.main_arg0)
      ∧ m' ((c.tc : Thread Cert.RotRefIdeal.nD Cert.RotRefIdeal.τ).loc Cert.RotRefIdeal.main_arg1) = m ((c.tc : Thread Cert.RotIdeal.nD Cert.RotIdeal.τ).loc Cert.RotIdeal.main_arg1)) →
    ∃ (v0 : (c : Dev Cert.RotIdeal.nD) → Buf (Elt Ideal) ((c.tc : Thread Cert.RotIdeal.nD Cert.RotIdeal.τ).loc Cert.RotIdeal.main_v24_0)) (v1 : (c : Dev Cert.RotIdeal.nD) → Buf (Elt Ideal) ((c.tc : Thread Cert.RotIdeal.nD Cert.RotIdeal.τ).loc Cert.RotIdeal.main_v24_1)),
      θ_run (Cert.RotIdeal.defs (F := Ideal)) (onTc (τ := Cert.RotIdeal.τ) (Cert.RotIdeal.main (F := Ideal))) ⟨m, fun _ => 0, g⟩ (fun r => ∀ c : Dev Cert.RotIdeal.nD,
          r.2.mem ((c.tc : Thread Cert.RotIdeal.nD Cert.RotIdeal.τ).loc Cert.RotIdeal.main_v24_0) = v0 c
          ∧ r.2.mem ((c.tc : Thread Cert.RotIdeal.nD Cert.RotIdeal.τ).loc Cert.RotIdeal.main_v24_1) = v1 c
          ∧ r.2.mem ((c.tc : Thread Cert.RotIdeal.nD Cert.RotIdeal.τ).loc Cert.RotIdeal.main_arg0) = m ((c.tc : Thread Cert.RotIdeal.nD Cert.RotIdeal.τ).loc Cert.RotIdeal.main_arg0)
          ∧ r.2.mem ((c.tc : Thread Cert.RotIdeal.nD Cert.RotIdeal.τ).loc Cert.RotIdeal.main_arg1) = m ((c.tc : Thread Cert.RotIdeal.nD Cert.RotIdeal.τ).loc Cert.RotIdeal.main_arg1))
      ∧ θ_run (Cert.RotRefIdeal.defs (F := Ideal)) (onTc (τ := Cert.RotRefIdeal.τ) (Cert.RotRefIdeal.main (F := Ideal))) ⟨m', fun _ => 0, g'⟩ (fun r => ∀ c : Dev Cert.RotRefIdeal.nD,
          r.2.mem ((c.tc : Thread Cert.RotRefIdeal.nD Cert.RotRefIdeal.τ).loc Cert.RotRefIdeal.main_v63) = v0 c
          ∧ r.2.mem ((c.tc : Thread Cert.RotRefIdeal.nD Cert.RotRefIdeal.τ).loc Cert.RotRefIdeal.main_v65) = v1 c
          ∧ r.2.mem ((c.tc : Thread Cert.RotRefIdeal.nD Cert.RotRefIdeal.τ).loc Cert.RotRefIdeal.main_arg0) = m' ((c.tc : Thread Cert.RotRefIdeal.nD Cert.RotRefIdeal.τ).loc Cert.RotRefIdeal.main_arg0)
          ∧ r.2.mem ((c.tc : Thread Cert.RotRefIdeal.nD Cert.RotRefIdeal.τ).loc Cert.RotRefIdeal.main_arg1) = m' ((c.tc : Thread Cert.RotRefIdeal.nD Cert.RotRefIdeal.τ).loc Cert.RotRefIdeal.main_arg1))

def Claim : Prop :=
  ∃ (hAtt : Cert.Att.Facts) (hAttIdeal : Cert.AttIdeal.Facts) (hAttRefIdeal : Cert.AttRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hCross : Cert.Cross.Facts) (hCrossIdeal : Cert.CrossIdeal.Facts) (hCrossRefIdeal : Cert.CrossRefIdeal.Facts) (hKv : Cert.Kv.Facts) (hKvIdeal : Cert.KvIdeal.Facts) (hKvRefIdeal : Cert.KvRefIdeal.Facts) (hMid : Cert.Mid.Facts) (hMidIdeal : Cert.MidIdeal.Facts) (hMidRefIdeal : Cert.MidRefIdeal.Facts) (hRot : Cert.Rot.Facts) (hRotIdeal : Cert.RotIdeal.Facts) (hRotRefIdeal : Cert.RotRefIdeal.Facts) (hPre_finite_qk : Cert.Pre_finite_qk.Facts) (hPre_finite_scores : Cert.Pre_finite_scores.Facts),
    quiescent_Att (hAtt := hAtt)
    ∧ quiescent_AttIdeal (hAttIdeal := hAttIdeal)
    ∧ quiescent_AttIdeal_pre_finite_qk (hAttIdeal := hAttIdeal) (hPre_finite_qk := hPre_finite_qk)
    ∧ quiescent_AttRefIdeal (hAttRefIdeal := hAttRefIdeal)
    ∧ quiescent_AttRefIdeal_pre_finite_qk (hAttRefIdeal := hAttRefIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Cross (hCross := hCross)
    ∧ quiescent_CrossIdeal (hCrossIdeal := hCrossIdeal)
    ∧ quiescent_CrossIdeal_pre_finite_scores (hCrossIdeal := hCrossIdeal) (hPre_finite_scores := hPre_finite_scores)
    ∧ quiescent_CrossRefIdeal (hCrossRefIdeal := hCrossRefIdeal)
    ∧ quiescent_CrossRefIdeal_pre_finite_scores (hCrossRefIdeal := hCrossRefIdeal) (hPre_finite_scores := hPre_finite_scores)
    ∧ quiescent_Kv (hKv := hKv)
    ∧ quiescent_KvIdeal (hKvIdeal := hKvIdeal)
    ∧ quiescent_KvRefIdeal (hKvRefIdeal := hKvRefIdeal)
    ∧ quiescent_Mid (hMid := hMid)
    ∧ quiescent_MidIdeal (hMidIdeal := hMidIdeal)
    ∧ quiescent_MidRefIdeal (hMidRefIdeal := hMidRefIdeal)
    ∧ quiescent_Rot (hRot := hRot)
    ∧ quiescent_RotIdeal (hRotIdeal := hRotIdeal)
    ∧ quiescent_RotRefIdeal (hRotRefIdeal := hRotRefIdeal)
    ∧ preserves_Att_AttIdeal
    ∧ algebraic_AttIdeal_AttRefIdeal_pre_finite_qk (hAttIdeal := hAttIdeal) (hAttRefIdeal := hAttRefIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Cross_CrossIdeal
    ∧ algebraic_CrossIdeal_CrossRefIdeal_pre_finite_scores (hCrossIdeal := hCrossIdeal) (hCrossRefIdeal := hCrossRefIdeal) (hPre_finite_scores := hPre_finite_scores)
    ∧ preserves_Kv_KvIdeal
    ∧ algebraic_KvIdeal_KvRefIdeal (hKvIdeal := hKvIdeal) (hKvRefIdeal := hKvRefIdeal)
    ∧ preserves_Mid_MidIdeal
    ∧ algebraic_MidIdeal_MidRefIdeal (hMidIdeal := hMidIdeal) (hMidRefIdeal := hMidRefIdeal)
    ∧ preserves_Rot_RotIdeal
    ∧ algebraic_RotIdeal_RotRefIdeal (hRotIdeal := hRotIdeal) (hRotRefIdeal := hRotRefIdeal)
-- ==== Pre_finite_qk.lean ====
abbrev S1 : Shape := ⟨1, ![1]⟩
abbrev S32x2048x8x128 : Shape := ⟨4, ![32, 2048, 8, 128]⟩
abbrev S32x2048x2x128 : Shape := ⟨4, ![32, 2048, 2, 128]⟩
abbrev S_ : Shape := ⟨0, ![]⟩

class Facts : Prop where
  bcast_S_S32x2048x8x128 : S_.BroadcastsInDim S32x2048x8x128 (![] : Fin 0 → Fin S32x2048x8x128.rank)
  reducesTo_S32x2048x8x128_S_d0_1_2_3 : S32x2048x8x128.ReducesTo [0, 1, 2, 3] S_
  h_S_ : 0 < S_.numel
  bcast_S_S32x2048x2x128 : S_.BroadcastsInDim S32x2048x2x128 (![] : Fin 0 → Fin S32x2048x2x128.rank)
  reducesTo_S32x2048x2x128_S_d0_1_2_3 : S32x2048x2x128.ReducesTo [0, 1, 2, 3] S_

variable [Facts]

def fn {F : FTy → Type} [FloatOps F] (main_arg0 : IVec S1 32) (main_arg1 : FVec F S32x2048x8x128 .f32) (main_arg2 : FVec F S32x2048x2x128 .f32) (main_arg3 : FVec F S32x2048x2x128 .f32) : IVec S_ 1 :=
  let main_v0 : FVec F S32x2048x8x128 .f32 := Host.absf main_arg1
  let main_cst : FVec F S_ .f32 := constant S_ .f32 0x7F800000#32
  let main_v1 : FVec F S32x2048x8x128 .f32 := broadcastInDim S32x2048x8x128 ![] bcast_S_S32x2048x8x128 main_cst
  let main_v2 : IVec S32x2048x8x128 1 := cmpf .olt main_v0 main_v1
  let main_c : IVec S_ 1 := constantI S_ 1 1#1
  let main_v3 : IVec S_ 1 := (fun x v => Host.reduce IntOp.andi x v reducesTo_S32x2048x8x128_S_d0_1_2_3 h_S_) main_v2 main_c
  let main_v4 : FVec F S32x2048x2x128 .f32 := Host.absf main_arg2
  let main_cst_0 : FVec F S_ .f32 := constant S_ .f32 0x7F800000#32
  let main_v5 : FVec F S32x2048x2x128 .f32 := broadcastInDim S32x2048x2x128 ![] bcast_S_S32x2048x2x128 main_cst_0
  let main_v6 : IVec S32x2048x2x128 1 := cmpf .olt main_v4 main_v5
  let main_c_1 : IVec S_ 1 := constantI S_ 1 1#1
  let main_v7 : IVec S_ 1 := (fun x v => Host.reduce IntOp.andi x v reducesTo_S32x2048x2x128_S_d0_1_2_3 h_S_) main_v6 main_c_1
  let main_v8 : IVec S_ 1 := andi main_v3 main_v7
  main_v8
-- ==== Pre_finite_scores.lean ====
abbrev S32x2048x1024 : Shape := ⟨3, ![32, 2048, 1024]⟩
abbrev S32x256x2048 : Shape := ⟨3, ![32, 256, 2048]⟩
abbrev S1024x1024 : Shape := ⟨2, ![1024, 1024]⟩
abbrev S1024 : Shape := ⟨1, ![1024]⟩
abbrev S_ : Shape := ⟨0, ![]⟩
abbrev S32x256x1024 : Shape := ⟨3, ![32, 256, 1024]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  slices_S32x256x2048_S32x256x1024_0_0_0 : S32x256x2048.Slices ![0, 0, 0] S32x256x1024
  bcast_S_S32x256x1024 : S_.BroadcastsInDim S32x256x1024 (![] : Fin 0 → Fin S32x256x1024.rank)
  reducesTo_S32x256x1024_S_d0_1_2 : S32x256x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S32x2048x1024 .f32) (main_arg1 : FVec F S32x256x2048 .f32) (main_arg2 : FVec F S1024x1024 .f32) (main_arg3 : FVec F S1024x1024 .f32) (main_arg4 : FVec F S1024 .f32) (main_arg5 : FVec F S1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S32x256x1024 .f32 := (extractStridedSlice S32x256x1024 ![0, 0, 0] · slices_S32x256x2048_S32x256x1024_0_0_0) main_arg1
  let main_v5 : FVec F S32x256x1024 .f32 := Host.absf main_v4
  let main_cst_0 : FVec F S_ .f32 := constant S_ .f32 0x7F800000#32
  let main_v6 : FVec F S32x256x1024 .f32 := broadcastInDim S32x256x1024 ![] bcast_S_S32x256x1024 main_cst_0
  let main_v7 : IVec S32x256x1024 1 := cmpf .olt main_v5 main_v6
  let main_c_1 : IVec S_ 1 := constantI S_ 1 1#1
  let main_v8 : IVec S_ 1 := (fun x v => Host.reduce IntOp.andi x v reducesTo_S32x256x1024_S_d0_1_2 h_S_) main_v7 main_c_1
  let main_v9 : IVec S_ 1 := andi main_v3 main_v8
  let main_v10 : FVec F S1024x1024 .f32 := Host.absf main_arg2
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_c_3 : IVec S_ 1 := constantI S_ 1 1#1
  let main_v13 : IVec S_ 1 := (fun x v => Host.reduce IntOp.andi x v reducesTo_S1024x1024_S_d0_1 h_S_) main_v12 main_c_3
  let main_v14 : IVec S_ 1 := andi main_v9 main_v13
  main_v14
-- ==== Att.lean ====
abbrev S1 : Shape := ⟨1, ![1]⟩
abbrev S32x2048x8x128 : Shape := ⟨4, ![32, 2048, 8, 128]⟩
abbrev S32x2048x2x128 : Shape := ⟨4, ![32, 2048, 2, 128]⟩
abbrev S_ : Shape := ⟨0, ![]⟩
abbrev S32x4x512x2x4x128 : Shape := ⟨6, ![32, 4, 512, 2, 4, 128]⟩
abbrev S32x2x4x4x512x128 : Shape := ⟨6, ![32, 2, 4, 4, 512, 128]⟩
abbrev S32x2x4x2048x128 : Shape := ⟨5, ![32, 2, 4, 2048, 128]⟩
abbrev S32x2x128x2048 : Shape := ⟨4, ![32, 2, 128, 2048]⟩
abbrev S32x2x2048x128 : Shape := ⟨4, ![32, 2, 2048, 128]⟩
abbrev S32x2x2048x256 : Shape := ⟨4, ![32, 2, 2048, 256]⟩
abbrev S32x2048x1024 : Shape := ⟨3, ![32, 2048, 1024]⟩
abbrev S1x1x1x2048x128 : Shape := ⟨5, ![1, 1, 1, 2048, 128]⟩
abbrev S1x1x128x2048 : Shape := ⟨4, ![1, 1, 128, 2048]⟩
abbrev S1x1x2048x256 : Shape := ⟨4, ![1, 1, 2048, 256]⟩
abbrev S1x512x512 : Shape := ⟨3, ![1, 512, 512]⟩
abbrev S2048x128 : Shape := ⟨2, ![2048, 128]⟩
abbrev S128x2048 : Shape := ⟨2, ![128, 2048]⟩
abbrev S2048x2048 : Shape := ⟨2, ![2048, 2048]⟩
abbrev S512x2048 : Shape := ⟨2, ![512, 2048]⟩
abbrev S2048x256 : Shape := ⟨2, ![2048, 256]⟩
abbrev S512x256 : Shape := ⟨2, ![512, 256]⟩
abbrev S512x128 : Shape := ⟨2, ![512, 128]⟩
abbrev S1x512x128 : Shape := ⟨3, ![1, 512, 128]⟩
abbrev S2048 : Shape := ⟨1, ![2048]⟩
abbrev S2048x1 : Shape := ⟨2, ![2048, 1]⟩

abbrev nBuf : Space → Nat
  | .hbm => 25
  | .vmem => 8
  | .smem => 1
  | _ => 0

abbrev bufTy : (tb : Table) → Fin (tcTables nBuf tb) → BufTy
  | .hbm, ⟨0, _⟩ => ⟨S1, .i32⟩
  | .hbm, ⟨1, _⟩ => ⟨S32x2048x8x128, .f32⟩
  | .hbm, ⟨2, _⟩ => ⟨S32x2048x2x128, .f32⟩
  | .hbm, ⟨3, _⟩ => ⟨S32x2048x2x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x2048x8x128, .f32⟩
  | .hbm, ⟨12, _⟩ => ⟨S32x2048x8x128, .f32⟩
  | .hbm, ⟨13, _⟩ => ⟨S32x4x512x2x4x128, .f32⟩
  | .hbm, ⟨14, _⟩ => ⟨S32x2x4x4x512x128, .f32⟩
  | .hbm, ⟨15, _⟩ => ⟨S32x2x4x2048x128, .f32⟩
  | .hbm, ⟨16, _⟩ => ⟨S32x2x4x2048x128, .bf16⟩
  | .hbm, ⟨17, _⟩ => ⟨S32x2x128x2048, .f32⟩
  | .hbm, ⟨18, _⟩ => ⟨S32x2x128x2048, .bf16⟩
  | .hbm, ⟨19, _⟩ => ⟨S32x2x2048x128, .f32⟩
  | .hbm, ⟨20, _⟩ => ⟨S32x2x2048x128, .bf16⟩
  | .hbm, ⟨21, _⟩ => ⟨S_, .bf16⟩
  | .hbm, ⟨22, _⟩ => ⟨S32x2x2048x128, .bf16⟩
  | .hbm, ⟨23, _⟩ => ⟨S32x2x2048x256, .bf16⟩
  | .hbm, ⟨24, _⟩ => ⟨S32x2048x1024, .bf16⟩
  | .local _ .vmem, ⟨0, _⟩ => ⟨S1x1x1x2048x128, .bf16⟩
  | .local _ .vmem, ⟨1, _⟩ => ⟨S1x1x1x2048x128, .bf16⟩
  | .local _ .vmem, ⟨2, _⟩ => ⟨S1x1x128x2048, .bf16⟩
  | .local _ .vmem, ⟨3, _⟩ => ⟨S1x1x128x2048, .bf16⟩
  | .local _ .vmem, ⟨4, _⟩ => ⟨S1x1x2048x256, .bf16⟩
  | .local _ .vmem, ⟨5, _⟩ => ⟨S1x1x2048x256, .bf16⟩
  | .local _ .vmem, ⟨6, _⟩ => ⟨S1x512x512, .bf16⟩
  | .local _ .vmem, ⟨7, _⟩ => ⟨S1x512x512, .bf16⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨4, ![32, 2, 4, 1], ![false, false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat, arg3.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 2 → Memref sig .tc .vmem S1x1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S1x1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== AttRefIdeal.lean ====
abbrev S1 : Shape := ⟨1, ![1]⟩
abbrev S32x2048x8x128 : Shape := ⟨4, ![32, 2048, 8, 128]⟩
abbrev S32x2048x2x128 : Shape := ⟨4, ![32, 2048, 2, 128]⟩
abbrev S32x2048x2x4x128 : Shape := ⟨5, ![32, 2048, 2, 4, 128]⟩
abbrev S32x2x4x2048x128 : Shape := ⟨5, ![32, 2, 4, 2048, 128]⟩
abbrev S32x2x2048x128 : Shape := ⟨4, ![32, 2, 2048, 128]⟩
abbrev S_ : Shape := ⟨0, ![]⟩
abbrev S32x2x4x2048x2048 : Shape := ⟨5, ![32, 2, 4, 2048, 2048]⟩
abbrev S32x2x4x2048 : Shape := ⟨4, ![32, 2, 4, 2048]⟩
abbrev S32x2x4x2048x1 : Shape := ⟨5, ![32, 2, 4, 2048, 1]⟩
abbrev S32x2048x1024 : Shape := ⟨3, ![32, 2048, 1024]⟩

abbrev nBuf : Space → Nat
  | .hbm => 33
  | .vmem => 0
  | .smem => 0
  | _ => 0

abbrev bufTy : (tb : Table) → Fin (tcTables nBuf tb) → BufTy
  | .hbm, ⟨0, _⟩ => ⟨S1, .i32⟩
  | .hbm, ⟨1, _⟩ => ⟨S32x2048x8x128, .f32⟩
  | .hbm, ⟨2, _⟩ => ⟨S32x2048x2x128, .f32⟩
  | .hbm, ⟨3, _⟩ => ⟨S32x2048x2x128, .f32⟩
  | .hbm, ⟨4, _⟩ => ⟨S32x2048x2x4x128, .f32⟩
  | .hbm, ⟨5, _⟩ => ⟨S32x2x4x2048x128, .f32⟩
  | .hbm, ⟨6, _⟩ => ⟨S32x2x2048x128, .f32⟩
  | .hbm, ⟨7, _⟩ => ⟨S32x2x2048x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x2x4x2048x2048, .f32⟩
  | .hbm, ⟨13, _⟩ => ⟨S32x2x4x2048x2048, .f32⟩
  | .hbm, ⟨14, _⟩ => ⟨S32x2x4x2048x2048, .f32⟩
  | .hbm, ⟨15, _⟩ => ⟨S_, .f32⟩
  | .hbm, ⟨16, _⟩ => ⟨S32x2x4x2048, .f32⟩
  | .hbm, ⟨17, _⟩ => ⟨S_, .f32⟩
  | .hbm, ⟨18, _⟩ => ⟨S32x2x4x2048, .f32⟩
  | .hbm, ⟨19, _⟩ => ⟨S32x2x4x2048, .f32⟩
  | .hbm, ⟨20, _⟩ => ⟨S32x2x4x2048x1, .f32⟩
  | .hbm, ⟨21, _⟩ => ⟨S32x2x4x2048x2048, .f32⟩
  | .hbm, ⟨22, _⟩ => ⟨S32x2x4x2048x2048, .f32⟩
  | .hbm, ⟨23, _⟩ => ⟨S32x2x4x2048x2048, .f32⟩
  | .hbm, ⟨24, _⟩ => ⟨S_, .f32⟩
  | .hbm, ⟨25, _⟩ => ⟨S32x2x4x2048, .f32⟩
  | .hbm, ⟨26, _⟩ => ⟨S32x2x4x2048x1, .f32⟩
  | .hbm, ⟨27, _⟩ => ⟨S32x2x4x2048x2048, .f32⟩
  | .hbm, ⟨28, _⟩ => ⟨S32x2x4x2048x2048, .f32⟩
  | .hbm, ⟨29, _⟩ => ⟨S32x2x4x2048x128, .f32⟩
  | .hbm, ⟨30, _⟩ => ⟨S32x2048x2x4x128, .f32⟩
  | .hbm, ⟨31, _⟩ => ⟨S32x2048x1024, .f32⟩
  | .hbm, ⟨32, _⟩ => ⟨S32x2048x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Ffn.lean ====
abbrev S65536x1024 : Shape := ⟨2, ![65536, 1024]⟩
abbrev S1024x5632 : Shape := ⟨2, ![1024, 5632]⟩
abbrev S2816x1024 : Shape := ⟨2, ![2816, 1024]⟩
abbrev S1024 : Shape := ⟨1, ![1024]⟩
abbrev S1024x2816 : Shape := ⟨2, ![1024, 2816]⟩
abbrev S1x1024 : Shape := ⟨2, ![1, 1024]⟩
abbrev S1024x1024 : Shape := ⟨2, ![1024, 1024]⟩
abbrev S1024x256 : Shape := ⟨2, ![1024, 256]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S65536x1024, .bf16⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S65536x1024, .f32⟩
  | .hbm, ⟨14, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x2816, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S65536x1024 : Shape := ⟨2, ![65536, 1024]⟩
abbrev S1024x5632 : Shape := ⟨2, ![1024, 5632]⟩
abbrev S2816x1024 : Shape := ⟨2, ![2816, 1024]⟩
abbrev S1024 : Shape := ⟨1, ![1024]⟩
abbrev S65536x5632 : Shape := ⟨2, ![65536, 5632]⟩
abbrev S65536x2816 : Shape := ⟨2, ![65536, 2816]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S65536x5632, .f32⟩
  | .hbm, ⟨6, _⟩ => ⟨S65536x2816, .f32⟩
  | .hbm, ⟨7, _⟩ => ⟨S65536x2816, .f32⟩
  | .hbm, ⟨8, _⟩ => ⟨S_, .f32⟩
  | .hbm, ⟨9, _⟩ => ⟨S65536x1024, .f32⟩
  | .hbm, ⟨10, _⟩ => ⟨S65536x1024, .f32⟩
  | .hbm, ⟨11, _⟩ => ⟨S65536x2816, .f32⟩
  | .hbm, ⟨12, _⟩ => ⟨S65536x2816, .f32⟩
  | .hbm, ⟨13, _⟩ => ⟨S_, .f32⟩
  | .hbm, ⟨14, _⟩ => ⟨S65536x2816, .f32⟩
  | .hbm, ⟨15, _⟩ => ⟨S65536x2816, .f32⟩
  | .hbm, ⟨16, _⟩ => ⟨S_, .f32⟩
  | .hbm, ⟨17, _⟩ => ⟨S65536x2816, .f32⟩
  | .hbm, ⟨18, _⟩ => ⟨S65536x2816, .f32⟩
  | .hbm, ⟨19, _⟩ => ⟨S65536x2816, .f32⟩
  | .hbm, ⟨20, _⟩ => ⟨S65536x2816, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S65536x1, .f32⟩
  | .hbm, ⟨44, _⟩ => ⟨S65536x1024, .f32⟩
  | .hbm, ⟨45, _⟩ => ⟨S65536x1024, .f32⟩
  | .hbm, ⟨46, _⟩ => ⟨S1x1024, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Merge.lean ====
abbrev S65536x1024 : Shape := ⟨2, ![65536, 1024]⟩
abbrev S65536x3072 : Shape := ⟨2, ![65536, 3072]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x3072 : Shape := ⟨2, ![512, 3072]⟩
abbrev S256x1024 : Shape := ⟨2, ![256, 1024]⟩
abbrev S256 : Shape := ⟨1, ![256]⟩
abbrev S256x1 : Shape := ⟨2, ![256, 1]⟩

abbrev nBuf : Space → Nat
  | .hbm => 25
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S65536x1024, .f32⟩
  | .hbm, ⟨4, _⟩ => ⟨S65536x3072, .f32⟩
  | .hbm, ⟨5, _⟩ => ⟨S65536x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S65536x1024, .bf16⟩
  | .hbm, ⟨13, _⟩ => ⟨S65536x1024, .bf16⟩
  | .hbm, ⟨14, _⟩ => ⟨S65536x1024, .bf16⟩
  | .hbm, ⟨15, _⟩ => ⟨S65536x1024, .bf16⟩
  | .hbm, ⟨16, _⟩ => ⟨S65536x3072, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S65536x1024, .f32⟩
  | .hbm, ⟨24, _⟩ => ⟨S65536x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S65536x1024 : Shape := ⟨2, ![65536, 1024]⟩
abbrev S65536x3072 : Shape := ⟨2, ![65536, 3072]⟩
abbrev S1024x1024 : Shape := ⟨2, ![1024, 1024]⟩
abbrev S1024 : Shape := ⟨1, ![1024]⟩
abbrev S65536x3x1024 : Shape := ⟨3, ![65536, 3, 1024]⟩
abbrev S65536x1x1024 : Shape := ⟨3, ![65536, 1, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S65536x1024, .f32⟩
  | .hbm, ⟨4, _⟩ => ⟨S65536x3072, .f32⟩
  | .hbm, ⟨5, _⟩ => ⟨S65536x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x3x1024, .f32⟩
  | .hbm, ⟨17, _⟩ => ⟨S65536x1x1024, .f32⟩
  | .hbm, ⟨18, _⟩ => ⟨S65536x1024, .f32⟩
  | .hbm, ⟨19, _⟩ => ⟨S65536x1024, .f32⟩
  | .hbm, ⟨20, _⟩ => ⟨S65536x1x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S_, .f32⟩
  | .hbm, ⟨43, _⟩ => ⟨S65536, .f32⟩
  | .hbm, ⟨44, _⟩ => ⟨S65536x1, .f32⟩
  | .hbm, ⟨45, _⟩ => ⟨S_, .f32⟩
  | .hbm, ⟨46, _⟩ => ⟨S65536x1, .f32⟩
  | .hbm, ⟨47, _⟩ => ⟨S65536x1, .f32⟩
  | .hbm, ⟨48, _⟩ => ⟨S65536x1024, .f32⟩
  | .hbm, ⟨49, _⟩ => ⟨S65536x1024, .f32⟩
  | .hbm, ⟨50, _⟩ => ⟨S_, .f32⟩
  | .hbm, ⟨51, _⟩ => ⟨S65536x1, .f32⟩
  | .hbm, ⟨52, _⟩ => ⟨S65536x1, .f32⟩
  | .hbm, ⟨53, _⟩ => ⟨S65536x1, .f32⟩
  | .hbm, ⟨54, _⟩ => ⟨S65536x1024, .f32⟩
  | .hbm, ⟨55, _⟩ => ⟨S65536x1024, .f32⟩
  | .hbm, ⟨56, _⟩ => ⟨S1x1024, .f32⟩
  | .hbm, ⟨57, _⟩ => ⟨S65536x1024, .f32⟩
  | .hbm, ⟨58, _⟩ => ⟨S65536x1024, .f32⟩
  | .hbm, ⟨59, _⟩ => ⟨S1x1024, .f32⟩
  | .hbm, ⟨60, _⟩ => ⟨S65536x1024, .f32⟩
  | .hbm, ⟨61, _⟩ => ⟨S65536x1024, .f32⟩
  | .hbm, ⟨62, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Cross.lean ====
abbrev S32x2048x1024 : Shape := ⟨3, ![32, 2048, 1024]⟩
abbrev S32x256x2048 : Shape := ⟨3, ![32, 256, 2048]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1x256x2048 : Shape := ⟨3, ![1, 256, 2048]⟩
abbrev S1x256x256 : Shape := ⟨3, ![1, 256, 256]⟩
abbrev S256x256 : Shape := ⟨2, ![256, 256]⟩
abbrev S1024x256 : Shape := ⟨2, ![1024, 256]⟩
abbrev S1024x1 : Shape := ⟨2, ![1024, 1]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 14
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S32x256x2048, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32x2048x1024, .bf16⟩
  | .hbm, ⟨7, _⟩ => ⟨S32x256x2048, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S32x2048x1024, .f32⟩
  | .hbm, ⟨13, _⟩ => ⟨S32x2048x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x256x2048, .bf16⟩
  | .local _ .vmem, ⟨5, _⟩ => ⟨S1x256x2048, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1024x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== CrossRefIdeal.lean ====
abbrev S32x2048x1024 : Shape := ⟨3, ![32, 2048, 1024]⟩
abbrev S32x256x2048 : Shape := ⟨3, ![32, 256, 2048]⟩
abbrev S1024x1024 : Shape := ⟨2, ![1024, 1024]⟩
abbrev S1024 : Shape := ⟨1, ![1024]⟩
abbrev S32x2048x4x256 : Shape := ⟨4, ![32, 2048, 4, 256]⟩
abbrev S32x256x1024 : Shape := ⟨3, ![32, 256, 1024]⟩
abbrev S32x256x4x256 : Shape := ⟨4, ![32, 256, 4, 256]⟩
abbrev S32x4x2048x256 : Shape := ⟨4, ![32, 4, 2048, 256]⟩
abbrev S_ : Shape := ⟨0, ![]⟩
abbrev S32x4x2048 : Shape := ⟨3, ![32, 4, 2048]⟩
abbrev S32x4x2048x1 : Shape := ⟨4, ![32, 4, 2048, 1]⟩
abbrev S32x4x256x2048 : Shape := ⟨4, ![32, 4, 256, 2048]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x256x2048, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32x2048x1024, .f32⟩
  | .hbm, ⟨7, _⟩ => ⟨S32x2048x4x256, .f32⟩
  | .hbm, ⟨8, _⟩ => ⟨S32x256x1024, .f32⟩
  | .hbm, ⟨9, _⟩ => ⟨S32x256x1024, .f32⟩
  | .hbm, ⟨10, _⟩ => ⟨S32x256x4x256, .f32⟩
  | .hbm, ⟨11, _⟩ => ⟨S32x256x4x256, .f32⟩
  | .hbm, ⟨12, _⟩ => ⟨S32x4x2048x256, .f32⟩
  | .hbm, ⟨13, _⟩ => ⟨S_, .f32⟩
  | .hbm, ⟨14, _⟩ => ⟨S32x4x2048x256, .f32⟩
  | .hbm, ⟨15, _⟩ => ⟨S32x4x2048x256, .f32⟩
  | .hbm, ⟨16, _⟩ => ⟨S_, .f32⟩
  | .hbm, ⟨17, _⟩ => ⟨S32x4x2048, .f32⟩
  | .hbm, ⟨18, _⟩ => ⟨S_, .f32⟩
  | .hbm, ⟨19, _⟩ => ⟨S32x4x2048, .f32⟩
  | .hbm, ⟨20, _⟩ => ⟨S32x4x2048, .f32⟩
  | .hbm, ⟨21, _⟩ => ⟨S32x4x2048x1, .f32⟩
  | .hbm, ⟨22, _⟩ => ⟨S32x4x2048x256, .f32⟩
  | .hbm, ⟨23, _⟩ => ⟨S32x4x2048x256, .f32⟩
  | .hbm, ⟨24, _⟩ => ⟨S32x4x2048x256, .f32⟩
  | .hbm, ⟨25, _⟩ => ⟨S_, .f32⟩
  | .hbm, ⟨26, _⟩ => ⟨S32x4x2048, .f32⟩
  | .hbm, ⟨27, _⟩ => ⟨S32x4x2048x1, .f32⟩
  | .hbm, ⟨28, _⟩ => ⟨S32x4x2048x256, .f32⟩
  | .hbm, ⟨29, _⟩ => ⟨S32x4x2048x256, .f32⟩
  | .hbm, ⟨30, _⟩ => ⟨S32x4x256x2048, .f32⟩
  | .hbm, ⟨31, _⟩ => ⟨S32x2048x4x256, .f32⟩
  | .hbm, ⟨32, _⟩ => ⟨S32x2048x1024, .f32⟩
  | .hbm, ⟨33, _⟩ => ⟨S_, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S_, .f32⟩
  | .hbm, ⟨39, _⟩ => ⟨S32x2048, .f32⟩
  | .hbm, ⟨40, _⟩ => ⟨S32x2048x1, .f32⟩
  | .hbm, ⟨41, _⟩ => ⟨S_, .f32⟩
  | .hbm, ⟨42, _⟩ => ⟨S32x2048x1, .f32⟩
  | .hbm, ⟨43, _⟩ => ⟨S32x2048x1, .f32⟩
  | .hbm, ⟨44, _⟩ => ⟨S32x2048x1024, .f32⟩
  | .hbm, ⟨45, _⟩ => ⟨S32x2048x1024, .f32⟩
  | .hbm, ⟨46, _⟩ => ⟨S32x2048x1024, .f32⟩
  | .hbm, ⟨47, _⟩ => ⟨S_, .f32⟩
  | .hbm, ⟨48, _⟩ => ⟨S32x2048, .f32⟩
  | .hbm, ⟨49, _⟩ => ⟨S32x2048x1, .f32⟩
  | .hbm, ⟨50, _⟩ => ⟨S_, .f32⟩
  | .hbm, ⟨51, _⟩ => ⟨S32x2048x1, .f32⟩
  | .hbm, ⟨52, _⟩ => ⟨S32x2048x1, .f32⟩
  | .hbm, ⟨53, _⟩ => ⟨S32x2048x1024, .f32⟩
  | .hbm, ⟨54, _⟩ => ⟨S32x2048x1024, .f32⟩
  | .hbm, ⟨55, _⟩ => ⟨S_, .f32⟩
  | .hbm, ⟨56, _⟩ => ⟨S32x2048x1, .f32⟩
  | .hbm, ⟨57, _⟩ => ⟨S32x2048x1, .f32⟩
  | .hbm, ⟨58, _⟩ => ⟨S32x2048x1, .f32⟩
  | .hbm, ⟨59, _⟩ => ⟨S32x2048x1024, .f32⟩
  | .hbm, ⟨60, _⟩ => ⟨S32x2048x1024, .f32⟩
  | .hbm, ⟨61, _⟩ => ⟨S1x1x1024, .f32⟩
  | .hbm, ⟨62, _⟩ => ⟨S32x2048x1024, .f32⟩
  | .hbm, ⟨63, _⟩ => ⟨S32x2048x1024, .f32⟩
  | .hbm, ⟨64, _⟩ => ⟨S1x1x1024, .f32⟩
  | .hbm, ⟨65, _⟩ => ⟨S32x2048x1024, .f32⟩
  | .hbm, ⟨66, _⟩ => ⟨S32x2048x1024, .f32⟩
  | .hbm, ⟨67, _⟩ => ⟨S32x2048x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Kv.lean ====
abbrev S32x256x1024 : Shape := ⟨3, ![32, 256, 1024]⟩
abbrev S1024x2048 : Shape := ⟨2, ![1024, 2048]⟩
abbrev S8192x1024 : Shape := ⟨2, ![8192, 1024]⟩
abbrev S8192x2048 : Shape := ⟨2, ![8192, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S32x256x1024, .f32⟩
  | .hbm, ⟨1, _⟩ => ⟨S1024x2048, .f32⟩
  | .hbm, ⟨2, _⟩ => ⟨S32x256x1024, .bf16⟩
  | .hbm, ⟨3, _⟩ => ⟨S8192x1024, .bf16⟩
  | .hbm, ⟨4, _⟩ => ⟨S1024x2048, .bf16⟩
  | .hbm, ⟨5, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRefIdeal.lean ====
abbrev S32x256x1024 : Shape := ⟨3, ![32, 256, 1024]⟩
abbrev S1024x2048 : Shape := ⟨2, ![1024, 2048]⟩
abbrev S32x256x2048 : Shape := ⟨3, ![32, 256, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1024x2048, .f32⟩
  | .hbm, ⟨2, _⟩ => ⟨S32x256x2048, .f32⟩
  | .hbm, ⟨3, _⟩ => ⟨S8192x2048, .f32⟩
  | .hbm, ⟨4, _⟩ => ⟨S8192x2048, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mid.lean ====
abbrev S32x2048x1024 : Shape := ⟨3, ![32, 2048, 1024]⟩
abbrev S1024x4096 : Shape := ⟨2, ![1024, 4096]⟩
abbrev S1024 : Shape := ⟨1, ![1024]⟩
abbrev S4x128x128 : Shape := ⟨3, ![4, 128, 128]⟩
abbrev S4x128 : Shape := ⟨2, ![4, 128]⟩
abbrev S128x4 : Shape := ⟨2, ![128, 4]⟩
abbrev S128x4x256 : Shape := ⟨3, ![128, 4, 256]⟩
abbrev S128x1024 : Shape := ⟨2, ![128, 1024]⟩
abbrev S1x1024 : Shape := ⟨2, ![1, 1024]⟩
abbrev S32x8x2048x128 : Shape := ⟨4, ![32, 8, 2048, 128]⟩
abbrev S1x1024x1024 : Shape := ⟨3, ![1, 1024, 1024]⟩
abbrev S1x8x1024x128 : Shape := ⟨4, ![1, 8, 1024, 128]⟩
abbrev S1024x1024 : Shape := ⟨2, ![1024, 1024]⟩
abbrev S1024x1 : Shape := ⟨2, ![1024, 1]⟩
abbrev S1024x256 : Shape := ⟨2, ![1024, 256]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩
abbrev S1024x512 : Shape := ⟨2, ![1024, 512]⟩
abbrev S1x1024x512 : Shape := ⟨3, ![1, 1024, 512]⟩
abbrev S1024x128 : Shape := ⟨2, ![1024, 128]⟩
abbrev S1x1x1024x128 : Shape := ⟨4, ![1, 1, 1024, 128]⟩

abbrev nBuf : Space → Nat
  | .hbm => 17
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S1024x4096, .f32⟩
  | .hbm, ⟨2, _⟩ => ⟨S1024, .f32⟩
  | .hbm, ⟨3, _⟩ => ⟨S1024, .f32⟩
  | .hbm, ⟨4, _⟩ => ⟨S4x128x128, .f32⟩
  | .hbm, ⟨5, _⟩ => ⟨S4x128, .f32⟩
  | .hbm, ⟨6, _⟩ => ⟨S128x4, .f32⟩
  | .hbm, ⟨7, _⟩ => ⟨S128x4x256, .f32⟩
  | .hbm, ⟨8, _⟩ => ⟨S128x1024, .f32⟩
  | .hbm, ⟨9, _⟩ => ⟨S32x2048x1024, .bf16⟩
  | .hbm, ⟨10, _⟩ => ⟨S1024x4096, .bf16⟩
  | .hbm, ⟨11, _⟩ => ⟨S1x1024, .f32⟩
  | .hbm, ⟨12, _⟩ => ⟨S1x1024, .f32⟩
  | .hbm, ⟨13, _⟩ => ⟨S4x128x128, .bf16⟩
  | .hbm, ⟨14, _⟩ => ⟨S32x8x2048x128, .bf16⟩
  | .hbm, ⟨15, _⟩ => ⟨S32x2048x1024, .bf16⟩
  | .hbm, ⟨16, _⟩ => ⟨S32x2048x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1024x4096, .bf16⟩
  | .local _ .vmem, ⟨3, _⟩ => ⟨S1x1024, .f32⟩
  | .local _ .vmem, ⟨4, _⟩ => ⟨S1x1024, .f32⟩
  | .local _ .vmem, ⟨5, _⟩ => ⟨S4x128x128, .bf16⟩
  | .local _ .vmem, ⟨6, _⟩ => ⟨S128x1024, .f32⟩
  | .local _ .vmem, ⟨7, _⟩ => ⟨S1x8x1024x128, .bf16⟩
  | .local _ .vmem, ⟨8, _⟩ => ⟨S1x8x1024x128, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1024x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MidRefIdeal.lean ====
abbrev S32x2048x1024 : Shape := ⟨3, ![32, 2048, 1024]⟩
abbrev S1024x4096 : Shape := ⟨2, ![1024, 4096]⟩
abbrev S1024 : Shape := ⟨1, ![1024]⟩
abbrev S4x128x128 : Shape := ⟨3, ![4, 128, 128]⟩
abbrev S4x128 : Shape := ⟨2, ![4, 128]⟩
abbrev S32x2048x4096 : Shape := ⟨3, ![32, 2048, 4096]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x16x128x4x256 : Shape := ⟨5, ![32, 16, 128, 4, 256]⟩
abbrev S4x32x16x256x128 : Shape := ⟨5, ![4, 32, 16, 256, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S32x2048x8x128 : Shape := ⟨4, ![32, 2048, 8, 128]⟩
abbrev S32x8x2048x128 : Shape := ⟨4, ![32, 8, 2048, 128]⟩

abbrev nBuf : Space → Nat
  | .hbm => 98
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x4096, .f32⟩
  | .hbm, ⟨2, _⟩ => ⟨S1024, .f32⟩
  | .hbm, ⟨3, _⟩ => ⟨S1024, .f32⟩
  | .hbm, ⟨4, _⟩ => ⟨S4x128x128, .f32⟩
  | .hbm, ⟨5, _⟩ => ⟨S4x128, .f32⟩
  | .hbm, ⟨6, _⟩ => ⟨S32x2048x4096, .f32⟩
  | .hbm, ⟨7, _⟩ => ⟨S32x2048x1024, .f32⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S32x2048x1024, .f32⟩
  | .hbm, ⟨13, _⟩ => ⟨S_, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S_, .f32⟩
  | .hbm, ⟨18, _⟩ => ⟨S32x2048x1024, .f32⟩
  | .hbm, ⟨19, _⟩ => ⟨S32x2048x1024, .f32⟩
  | .hbm, ⟨20, _⟩ => ⟨S32x2048x1024, .f32⟩
  | .hbm, ⟨21, _⟩ => ⟨S_, .f32⟩
  | .hbm, ⟨22, _⟩ => ⟨S32x2048x1024, .f32⟩
  | .hbm, ⟨23, _⟩ => ⟨S32x2048x1024, .f32⟩
  | .hbm, ⟨24, _⟩ => ⟨S_, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S_, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S_, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S_, .f32⟩
  | .hbm, ⟨39, _⟩ => ⟨S32x2048x1024, .f32⟩
  | .hbm, ⟨40, _⟩ => ⟨S32x2048x1024, .f32⟩
  | .hbm, ⟨41, _⟩ => ⟨S_, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S_, .f32⟩
  | .hbm, ⟨46, _⟩ => ⟨S32x2048, .f32⟩
  | .hbm, ⟨47, _⟩ => ⟨S32x2048x1, .f32⟩
  | .hbm, ⟨48, _⟩ => ⟨S_, .f32⟩
  | .hbm, ⟨49, _⟩ => ⟨S32x2048x1, .f32⟩
  | .hbm, ⟨50, _⟩ => ⟨S32x2048x1, .f32⟩
  | .hbm, ⟨51, _⟩ => ⟨S32x2048x1024, .f32⟩
  | .hbm, ⟨52, _⟩ => ⟨S32x2048x1024, .f32⟩
  | .hbm, ⟨53, _⟩ => ⟨S32x2048x1024, .f32⟩
  | .hbm, ⟨54, _⟩ => ⟨S_, .f32⟩
  | .hbm, ⟨55, _⟩ => ⟨S32x2048, .f32⟩
  | .hbm, ⟨56, _⟩ => ⟨S32x2048x1, .f32⟩
  | .hbm, ⟨57, _⟩ => ⟨S_, .f32⟩
  | .hbm, ⟨58, _⟩ => ⟨S32x2048x1, .f32⟩
  | .hbm, ⟨59, _⟩ => ⟨S32x2048x1, .f32⟩
  | .hbm, ⟨60, _⟩ => ⟨S32x2048x1024, .f32⟩
  | .hbm, ⟨61, _⟩ => ⟨S32x2048x1024, .f32⟩
  | .hbm, ⟨62, _⟩ => ⟨S_, .f32⟩
  | .hbm, ⟨63, _⟩ => ⟨S32x2048x1, .f32⟩
  | .hbm, ⟨64, _⟩ => ⟨S32x2048x1, .f32⟩
  | .hbm, ⟨65, _⟩ => ⟨S32x2048x1, .f32⟩
  | .hbm, ⟨66, _⟩ => ⟨S32x2048x1024, .f32⟩
  | .hbm, ⟨67, _⟩ => ⟨S32x2048x1024, .f32⟩
  | .hbm, ⟨68, _⟩ => ⟨S1x1x1024, .f32⟩
  | .hbm, ⟨69, _⟩ => ⟨S32x2048x1024, .f32⟩
  | .hbm, ⟨70, _⟩ => ⟨S32x2048x1024, .f32⟩
  | .hbm, ⟨71, _⟩ => ⟨S1x1x1024, .f32⟩
  | .hbm, ⟨72, _⟩ => ⟨S32x2048x1024, .f32⟩
  | .hbm, ⟨73, _⟩ => ⟨S32x2048x1024, .f32⟩
  | .hbm, ⟨74, _⟩ => ⟨S32x16x128x4x256, .f32⟩
  | .hbm, ⟨75, _⟩ => ⟨S4x32x16x256x128, .f32⟩
  | .hbm, ⟨76, _⟩ => ⟨S32x16x128x4x256, .f32⟩
  | .hbm, ⟨77, _⟩ => ⟨S128x4, .f32⟩
  | .hbm, ⟨78, _⟩ => ⟨S128x4x1, .f32⟩
  | .hbm, ⟨79, _⟩ => ⟨S1x1x128x4x1, .f32⟩
  | .hbm, ⟨80, _⟩ => ⟨S32x16x128x4x256, .f32⟩
  | .hbm, ⟨81, _⟩ => ⟨S32x16x128x4x256, .f32⟩
  | .hbm, ⟨82, _⟩ => ⟨S32x2048x8x128, .f32⟩
  | .hbm, ⟨83, _⟩ => ⟨S32x8x2048x128, .f32⟩
  | .hbm, ⟨84, _⟩ => ⟨S32x8x2048x128, .bf16⟩
  | .hbm, ⟨85, _⟩ => ⟨S32x2048x1024, .f32⟩
  | .hbm, ⟨86, _⟩ => ⟨S32x2048x1024, .f32⟩
  | .hbm, ⟨87, _⟩ => ⟨S_, .f32⟩
  | .hbm, ⟨88, _⟩ => ⟨S32x2048x1024, .f32⟩
  | .hbm, ⟨89, _⟩ => ⟨S32x2048x1024, .f32⟩
  | .hbm, ⟨90, _⟩ => ⟨S_, .f32⟩
  | .hbm, ⟨91, _⟩ => ⟨S32x2048x1024, .f32⟩
  | .hbm, ⟨92, _⟩ => ⟨S32x2048x1024, .f32⟩
  | .hbm, ⟨93, _⟩ => ⟨S32x2048x1024, .f32⟩
  | .hbm, ⟨94, _⟩ => ⟨S32x2048x1024, .bf16⟩
  | .hbm, ⟨95, _⟩ => ⟨S32x2048x1024, .f32⟩
  | .hbm, ⟨96, _⟩ => ⟨S32x2048x1024, .f32⟩
  | .hbm, ⟨97, _⟩ => ⟨S32x2048x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call0_v0 : Ref sig .tc := ⟨.hbm, 85, rfl⟩
abbrev main_call0_v1 : Ref sig .tc := ⟨.hbm, 86, rfl⟩
abbrev main_call0_cst : Ref sig .tc := ⟨.hbm, 87, rfl⟩
abbrev main_call0_v2 : Ref sig .tc := ⟨.hbm, 88, rfl⟩
abbrev main_call0_v3 : Ref sig .tc := ⟨.hbm, 89, rfl⟩
abbrev main_call0_cst_0 : Ref sig .tc := ⟨.hbm, 90, rfl⟩
abbrev main_call0_v4 : Ref sig .tc := ⟨.hbm, 91, rfl⟩
abbrev main_call0_v5 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]
-- ==== Rot.lean ====
abbrev S32x2048x1024 : Shape := ⟨3, ![32, 2048, 1024]⟩
abbrev S1024x2048 : Shape := ⟨2, ![1024, 2048]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S32x8x2048x128 : Shape := ⟨4, ![32, 8, 2048, 128]⟩
abbrev S32x8x16x128x128 : Shape := ⟨5, ![32, 8, 16, 128, 128]⟩
abbrev S1x1024x1024 : Shape := ⟨3, ![1, 1024, 1024]⟩
abbrev S1024x128 : Shape := ⟨2, ![1024, 128]⟩
abbrev S1x8x1024x128 : Shape := ⟨4, ![1, 8, 1024, 128]⟩
abbrev S1x8x8x128x128 : Shape := ⟨5, ![1, 8, 8, 128, 128]⟩
abbrev S1024x1024 : Shape := ⟨2, ![1024, 1024]⟩
abbrev S1024x256 : Shape := ⟨2, ![1024, 256]⟩
abbrev S1x1x1024x128 : Shape := ⟨4, ![1, 1, 1024, 128]⟩
abbrev S128x1024 : Shape := ⟨2, ![128, 1024]⟩
abbrev S128x128 : Shape := ⟨2, ![128, 128]⟩
abbrev S1x1x1x128x128 : Shape := ⟨5, ![1, 1, 1, 128, 128]⟩

abbrev nBuf : Space → Nat
  | .hbm => 32
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S1024x2048, .f32⟩
  | .hbm, ⟨2, _⟩ => ⟨S2048, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S2048, .f32⟩
  | .hbm, ⟨18, _⟩ => ⟨S2048x1, .f32⟩
  | .hbm, ⟨19, _⟩ => ⟨S1x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S32x2048x1024, .bf16⟩
  | .hbm, ⟨26, _⟩ => ⟨S1024x2048, .bf16⟩
  | .hbm, ⟨27, _⟩ => ⟨S2048x128, .f32⟩
  | .hbm, ⟨28, _⟩ => ⟨S2048x64, .f32⟩
  | .hbm, ⟨29, _⟩ => ⟨S2048x128, .f32⟩
  | .hbm, ⟨30, _⟩ => ⟨S32x8x2048x128, .bf16⟩
  | .hbm, ⟨31, _⟩ => ⟨S32x8x16x128x128, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1024x2048, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1x8x1024x128, .bf16⟩
  | .local _ .vmem, ⟨8, _⟩ => ⟨S1x8x1024x128, .bf16⟩
  | .local _ .vmem, ⟨9, _⟩ => ⟨S1x8x8x128x128, .bf16⟩
  | .local _ .vmem, ⟨10, _⟩ => ⟨S1x8x8x128x128, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24_0 : Ref sig .tc := ⟨.hbm, 30, rfl⟩
abbrev main_v24_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RotRefIdeal.lean ====
abbrev S32x2048x1024 : Shape := ⟨3, ![32, 2048, 1024]⟩
abbrev S1024x2048 : Shape := ⟨2, ![1024, 2048]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S32x2048x2048 : Shape := ⟨3, ![32, 2048, 2048]⟩
abbrev S32x2048x8x128 : Shape := ⟨4, ![32, 2048, 8, 128]⟩
abbrev S32x8x2048x128 : Shape := ⟨4, ![32, 8, 2048, 128]⟩
abbrev S32x8x2048x64 : Shape := ⟨4, ![32, 8, 2048, 64]⟩
abbrev S1x1x2048x64 : Shape := ⟨4, ![1, 1, 2048, 64]⟩
abbrev S32x8x16x128x128 : Shape := ⟨5, ![32, 8, 16, 128, 128]⟩

abbrev nBuf : Space → Nat
  | .hbm => 73
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x2048, .f32⟩
  | .hbm, ⟨2, _⟩ => ⟨S2048, .i32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S2048, .f32⟩
  | .hbm, ⟨18, _⟩ => ⟨S2048x1, .f32⟩
  | .hbm, ⟨19, _⟩ => ⟨S1x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S32x2048x2048, .f32⟩
  | .hbm, ⟨26, _⟩ => ⟨S32x2048x1024, .f32⟩
  | .hbm, ⟨27, _⟩ => ⟨S32x2048x1024, .f32⟩
  | .hbm, ⟨28, _⟩ => ⟨S32x2048x8x128, .f32⟩
  | .hbm, ⟨29, _⟩ => ⟨S32x8x2048x128, .f32⟩
  | .hbm, ⟨30, _⟩ => ⟨S32x8x2048x64, .f32⟩
  | .hbm, ⟨31, _⟩ => ⟨S32x8x2048x64, .f32⟩
  | .hbm, ⟨32, _⟩ => ⟨S1x1x2048x64, .f32⟩
  | .hbm, ⟨33, _⟩ => ⟨S32x8x2048x64, .f32⟩
  | .hbm, ⟨34, _⟩ => ⟨S32x8x2048x64, .f32⟩
  | .hbm, ⟨35, _⟩ => ⟨S1x1x2048x64, .f32⟩
  | .hbm, ⟨36, _⟩ => ⟨S32x8x2048x64, .f32⟩
  | .hbm, ⟨37, _⟩ => ⟨S32x8x2048x64, .f32⟩
  | .hbm, ⟨38, _⟩ => ⟨S32x8x2048x64, .f32⟩
  | .hbm, ⟨39, _⟩ => ⟨S1x1x2048x64, .f32⟩
  | .hbm, ⟨40, _⟩ => ⟨S32x8x2048x64, .f32⟩
  | .hbm, ⟨41, _⟩ => ⟨S32x8x2048x64, .f32⟩
  | .hbm, ⟨42, _⟩ => ⟨S1x1x2048x64, .f32⟩
  | .hbm, ⟨43, _⟩ => ⟨S32x8x2048x64, .f32⟩
  | .hbm, ⟨44, _⟩ => ⟨S32x8x2048x64, .f32⟩
  | .hbm, ⟨45, _⟩ => ⟨S32x8x2048x64, .f32⟩
  | .hbm, ⟨46, _⟩ => ⟨S32x8x2048x128, .f32⟩
  | .hbm, ⟨47, _⟩ => ⟨S32x2048x8x128, .f32⟩
  | .hbm, ⟨48, _⟩ => ⟨S32x8x2048x128, .f32⟩
  | .hbm, ⟨49, _⟩ => ⟨S32x8x2048x64, .f32⟩
  | .hbm, ⟨50, _⟩ => ⟨S32x8x2048x64, .f32⟩
  | .hbm, ⟨51, _⟩ => ⟨S1x1x2048x64, .f32⟩
  | .hbm, ⟨52, _⟩ => ⟨S32x8x2048x64, .f32⟩
  | .hbm, ⟨53, _⟩ => ⟨S32x8x2048x64, .f32⟩
  | .hbm, ⟨54, _⟩ => ⟨S1x1x2048x64, .f32⟩
  | .hbm, ⟨55, _⟩ => ⟨S32x8x2048x64, .f32⟩
  | .hbm, ⟨56, _⟩ => ⟨S32x8x2048x64, .f32⟩
  | .hbm, ⟨57, _⟩ => ⟨S32x8x2048x64, .f32⟩
  | .hbm, ⟨58, _⟩ => ⟨S1x1x2048x64, .f32⟩
  | .hbm, ⟨59, _⟩ => ⟨S32x8x2048x64, .f32⟩
  | .hbm, ⟨60, _⟩ => ⟨S32x8x2048x64, .f32⟩
  | .hbm, ⟨61, _⟩ => ⟨S1x1x2048x64, .f32⟩
  | .hbm, ⟨62, _⟩ => ⟨S32x8x2048x64, .f32⟩
  | .hbm, ⟨63, _⟩ => ⟨S32x8x2048x64, .f32⟩
  | .hbm, ⟨64, _⟩ => ⟨S32x8x2048x64, .f32⟩
  | .hbm, ⟨65, _⟩ => ⟨S32x8x2048x128, .f32⟩
  | .hbm, ⟨66, _⟩ => ⟨S_, .f32⟩
  | .hbm, ⟨67, _⟩ => ⟨S32x8x2048x128, .f32⟩
  | .hbm, ⟨68, _⟩ => ⟨S32x8x2048x128, .f32⟩
  | .hbm, ⟨69, _⟩ => ⟨S32x8x16x128x128, .f32⟩
  | .hbm, ⟨70, _⟩ => ⟨S32x8x2048x128, .bf16⟩
  | .hbm, ⟨71, _⟩ => ⟨S32x8x16x128x128, .f32⟩
  | .hbm, ⟨72, _⟩ => ⟨S32x8x16x128x128, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_cst_3 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩

abbrev nD : Nat := 1
abbrev τ : Topo := Topo.v7x

variable {F : FTy → Type} [FloatOps F]
-- ==== Proof.Att.RunB.lean ====
module

public import proofs.«01_k».proof.Proof.Gen.AttIdeal.Frame
public import proofs.«01_k».proof.Proof.Gen.AttIdeal.Skeleton

@[expose] public section

set_option maxRecDepth 16384

noncomputable section

namespace Cert.AttIdeal.Hand

open Cert.AttIdeal Cert.AttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch, on the flag word `v0`: the scores are bounded. -/
abbrev isBounded (v0 : BitVec 32) : Prop := (Scalar.cmpi .ne (Scalar.extui (Scalar.cmpi .eq v0 1#32)) 0#32) = 1#1

/-- The condition of the body's second branch, on the flag word `v0`: the scores are not bounded. -/
abbrev isUnbounded (v0 : BitVec 32) : Prop := (Scalar.cmpi .ne (Scalar.extui (Scalar.xori (Scalar.cmpi .eq v0 1#32) 1#1)) 0#32) = 1#1

/-- The two branches exclude each other and one of them is taken. -/
theorem unbounded_iff : ∀ v0 : BitVec 32, isUnbounded v0 ↔ ¬isBounded v0 := by
  intro v0
  unfold isUnbounded isBounded
  generalize Scalar.cmpi .eq v0 1#32 = b
  revert b
  decide

set_option maxHeartbeats 1000000 in
/-- The body when the scores are bounded: no maximum is subtracted. The pieces the four stores leave in the output's staging memref are the witness: on
    whole staging memrefs the body runs to the continuation that holds the inputs as they were and the output with
    these pieces written over some contents. -/
noncomputable def runB (c : Dev nD) (i : grid0.Coords) (arg4 : Memref sig .tc .smem S1 .i32) (harg4 : arg4.IsWhole) (arg5 : Memref sig .tc .vmem S1x1x1x2048x128 .bf16) (harg5 : arg5.IsWhole) (arg6 : Memref sig .tc .vmem S1x1x128x2048 .bf16) (harg6 : arg6.IsWhole) (arg7 : Memref sig .tc .vmem S1x1x2048x256 .bf16) (harg7 : arg7.IsWhole) (arg8 : Memref sig .tc .vmem S1x512x512 .bf16) (harg8 : arg8.IsWhole)
    (x0 : Vec F S1 .i32) (x1 : Vec F S1x1x1x2048x128 .bf16) (x2 : Vec F S1x1x128x2048 .bf16) (x3 : Vec F S1x1x2048x256 .bf16)
    (hc0 : isBounded (arg4.view.readAt (Elt F) (Rect.unit (s := S1) ![0] S1.size inb_S1_S1_0).toLoadRect (harg4.unread x0) (Shape.Idx.first (numel1_S1.symm ▸ Nat.one_pos)))) (hc1 : ¬isUnbounded (arg4.view.readAt (Elt F) (Rect.unit (s := S1) ![0] S1.size inb_S1_S1_0).toLoadRect (harg4.unread x0) (Shape.Idx.first (numel1_S1.symm ▸ Nat.one_pos)))) :
    { L4 : List (View.Piece (Elt F) S1x512x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4)) -∗ K ⟨⟩))
          ⊢ wp frame (wpE (defs₀ (F := F)) Variants.none c none) E (cc0_gqa_attention i arg4 harg4 arg5 harg5 arg6 harg6 arg7 harg7 arg8 harg8) K } := by
  refine ⟨?_, fun E K => ?run⟩
  case run =>
    simp only [cc0_gqa_attention_eq_skeleton]; unfold cc0_gqa_attention_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg4.eq_unread hf0; obtain rfl := harg5.eq_unread hf1; obtain rfl := harg6.eq_unread hf2; obtain rfl := harg7.eq_unread hf3
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    iexists _; iexact H4

end Cert.AttIdeal.Hand

end
-- ==== Proof.Att.RunC.lean ====
module

public import proofs.«01_k».proof.Proof.Att.RunB

@[expose] public section

set_option maxRecDepth 16384

noncomputable section

namespace Cert.AttIdeal.Hand

open Cert.AttIdeal Cert.AttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body when the scores are not bounded: each row is shifted by its maximum. The pieces the four stores leave in the output's staging memref are the witness: on
    whole staging memrefs the body runs to the continuation that holds the inputs as they were and the output with
    these pieces written over some contents. -/
noncomputable def runC (c : Dev nD) (i : grid0.Coords) (arg4 : Memref sig .tc .smem S1 .i32) (harg4 : arg4.IsWhole) (arg5 : Memref sig .tc .vmem S1x1x1x2048x128 .bf16) (harg5 : arg5.IsWhole) (arg6 : Memref sig .tc .vmem S1x1x128x2048 .bf16) (harg6 : arg6.IsWhole) (arg7 : Memref sig .tc .vmem S1x1x2048x256 .bf16) (harg7 : arg7.IsWhole) (arg8 : Memref sig .tc .vmem S1x512x512 .bf16) (harg8 : arg8.IsWhole)
    (x0 : Vec F S1 .i32) (x1 : Vec F S1x1x1x2048x128 .bf16) (x2 : Vec F S1x1x128x2048 .bf16) (x3 : Vec F S1x1x2048x256 .bf16)
    (hc0 : ¬isBounded (arg4.view.readAt (Elt F) (Rect.unit (s := S1) ![0] S1.size inb_S1_S1_0).toLoadRect (harg4.unread x0) (Shape.Idx.first (numel1_S1.symm ▸ Nat.one_pos)))) (hc1 : isUnbounded (arg4.view.readAt (Elt F) (Rect.unit (s := S1) ![0] S1.size inb_S1_S1_0).toLoadRect (harg4.unread x0) (Shape.Idx.first (numel1_S1.symm ▸ Nat.one_pos)))) :
    { L4 : List (View.Piece (Elt F) S1x512x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f L4)) -∗ K ⟨⟩))
          ⊢ wp frame (wpE (defs₀ (F := F)) Variants.none c none) E (cc0_gqa_attention i arg4 harg4 arg5 harg5 arg6 harg6 arg7 harg7 arg8 harg8) K } := by
  refine ⟨?_, fun E K => ?run⟩
  case run =>
    simp only [cc0_gqa_attention_eq_skeleton]; unfold cc0_gqa_attention_skel
    simp only [k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg4.eq_unread hf0; obtain rfl := harg5.eq_unread hf1; obtain rfl := harg6.eq_unread hf2; obtain rfl := harg7.eq_unread hf3
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    iexists _; iexact H4

end Cert.AttIdeal.Hand

end
-- ==== Proof.Att.Frame.lean ====
module

public import proofs.«01_k».proof.Proof.Att.RunC
public import Idealize.ShloMosaic.Lib.Claim

@[expose] public section

set_option maxRecDepth 16384

noncomputable section

namespace Cert.AttIdeal.Hand

open Cert.AttIdeal Cert.AttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs, and what the body leaves in the output's -/

abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x128x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x512 .bf16 := win0_4.stage (cfg0.slots t 4)
abbrev hs0_4 (t : Fin cfg0.N) : (ms0_4 t).IsWhole := hstage0_4 ((cfg0.slots t 4).cast nbuf0_4)

/-- One staging buffer of the output window, through which its contents are stated. -/
abbrev VO : View sig .tc .vmem S1x512x512 .bf16 := (Memref.whole cc0_stg4_0 : Memref sig .tc .vmem S1x512x512 .bf16).view

/-- In the bounded case the four stores cover the output's block. -/
theorem coverB (c : Dev nD) (i : grid0.Coords) (arg4 : Memref sig .tc .smem S1 .i32) (harg4 : arg4.IsWhole) (arg5 : Memref sig .tc .vmem S1x1x1x2048x128 .bf16) (harg5 : arg5.IsWhole) (arg6 : Memref sig .tc .vmem S1x1x128x2048 .bf16) (harg6 : arg6.IsWhole) (arg7 : Memref sig .tc .vmem S1x1x2048x256 .bf16) (harg7 : arg7.IsWhole) (arg8 : Memref sig .tc .vmem S1x512x512 .bf16) (harg8 : arg8.IsWhole)
    (x0 : Vec F S1 .i32) (x1 : Vec F S1x1x1x2048x128 .bf16) (x2 : Vec F S1x1x128x2048 .bf16) (x3 : Vec F S1x1x2048x256 .bf16)
    (hc0 : isBounded (arg4.view.readAt (Elt F) (Rect.unit (s := S1) ![0] S1.size inb_S1_S1_0).toLoadRect (harg4.unread x0) (Shape.Idx.first (numel1_S1.symm ▸ Nat.one_pos)))) (hc1 : ¬isUnbounded (arg4.view.readAt (Elt F) (Rect.unit (s := S1) ![0] S1.size inb_S1_S1_0).toLoadRect (harg4.unread x0) (Shape.Idx.first (numel1_S1.symm ▸ Nat.one_pos)))) (y : S1x512x512.Idx) :
    ∃ pc ∈ (runB c i arg4 harg4 arg5 harg5 arg6 harg6 arg7 harg7 arg8 harg8 x0 x1 x2 x3 hc0 hc1).1, y ∈ pc.1.set :=
  View.cover_of_tiledL (runB c i arg4 harg4 arg5 harg5 arg6 harg6 arg7 harg7 arg8 harg8 x0 x1 x2 x3 hc0 hc1).1 S1x512x128.size (by sl_kernel_rfl) y

/-- What the body leaves in the output's staging memref in the bounded case: its stores read back. -/
def outB (c : Dev nD) (i : grid0.Coords) (arg4 : Memref sig .tc .smem S1 .i32) (harg4 : arg4.IsWhole) (arg5 : Memref sig .tc .vmem S1x1x1x2048x128 .bf16) (harg5 : arg5.IsWhole) (arg6 : Memref sig .tc .vmem S1x1x128x2048 .bf16) (harg6 : arg6.IsWhole) (arg7 : Memref sig .tc .vmem S1x1x2048x256 .bf16) (harg7 : arg7.IsWhole) (arg8 : Memref sig .tc .vmem S1x512x512 .bf16) (harg8 : arg8.IsWhole)
    (x0 : Vec F S1 .i32) (x1 : Vec F S1x1x1x2048x128 .bf16) (x2 : Vec F S1x1x128x2048 .bf16) (x3 : Vec F S1x1x2048x256 .bf16)
    (hc0 : isBounded (arg4.view.readAt (Elt F) (Rect.unit (s := S1) ![0] S1.size inb_S1_S1_0).toLoadRect (harg4.unread x0) (Shape.Idx.first (numel1_S1.symm ▸ Nat.one_pos)))) (hc1 : ¬isUnbounded (arg4.view.readAt (Elt F) (Rect.unit (s := S1) ![0] S1.size inb_S1_S1_0).toLoadRect (harg4.unread x0) (Shape.Idx.first (numel1_S1.symm ▸ Nat.one_pos)))) : Vec F S1x512x512 .bf16 :=
  VO.read (Elt F) (VO.writes (Elt F) VO.junk (runB c i arg4 harg4 arg5 harg5 arg6 harg6 arg7 harg7 arg8 harg8 x0 x1 x2 x3 hc0 hc1).1)

/-- In the unbounded case the four stores cover the output's block. -/
theorem coverC (c : Dev nD) (i : grid0.Coords) (arg4 : Memref sig .tc .smem S1 .i32) (harg4 : arg4.IsWhole) (arg5 : Memref sig .tc .vmem S1x1x1x2048x128 .bf16) (harg5 : arg5.IsWhole) (arg6 : Memref sig .tc .vmem S1x1x128x2048 .bf16) (harg6 : arg6.IsWhole) (arg7 : Memref sig .tc .vmem S1x1x2048x256 .bf16) (harg7 : arg7.IsWhole) (arg8 : Memref sig .tc .vmem S1x512x512 .bf16) (harg8 : arg8.IsWhole)
    (x0 : Vec F S1 .i32) (x1 : Vec F S1x1x1x2048x128 .bf16) (x2 : Vec F S1x1x128x2048 .bf16) (x3 : Vec F S1x1x2048x256 .bf16)
    (hc0 : ¬isBounded (arg4.view.readAt (Elt F) (Rect.unit (s := S1) ![0] S1.size inb_S1_S1_0).toLoadRect (harg4.unread x0) (Shape.Idx.first (numel1_S1.symm ▸ Nat.one_pos)))) (hc1 : isUnbounded (arg4.view.readAt (Elt F) (Rect.unit (s := S1) ![0] S1.size inb_S1_S1_0).toLoadRect (harg4.unread x0) (Shape.Idx.first (numel1_S1.symm ▸ Nat.one_pos)))) (y : S1x512x512.Idx) :
    ∃ pc ∈ (runC c i arg4 harg4 arg5 harg5 arg6 harg6 arg7 harg7 arg8 harg8 x0 x1 x2 x3 hc0 hc1).1, y ∈ pc.1.set :=
  View.cover_of_tiledL (runC c i arg4 harg4 arg5 harg5 arg6 harg6 arg7 harg7 arg8 harg8 x0 x1 x2 x3 hc0 hc1).1 S1x512x128.size (by sl_kernel_rfl) y

/-- What the body leaves in the output's staging memref in the unbounded case: its stores read back. -/
def outC (c : Dev nD) (i : grid0.Coords) (arg4 : Memref sig .tc .smem S1 .i32) (harg4 : arg4.IsWhole) (arg5 : Memref sig .tc .vmem S1x1x1x2048x128 .bf16) (harg5 : arg5.IsWhole) (arg6 : Memref sig .tc .vmem S1x1x128x2048 .bf16) (harg6 : arg6.IsWhole) (arg7 : Memref sig .tc .vmem S1x1x2048x256 .bf16) (harg7 : arg7.IsWhole) (arg8 : Memref sig .tc .vmem S1x512x512 .bf16) (harg8 : arg8.IsWhole)
    (x0 : Vec F S1 .i32) (x1 : Vec F S1x1x1x2048x128 .bf16) (x2 : Vec F S1x1x128x2048 .bf16) (x3 : Vec F S1x1x2048x256 .bf16)
    (hc0 : ¬isBounded (arg4.view.readAt (Elt F) (Rect.unit (s := S1) ![0] S1.size inb_S1_S1_0).toLoadRect (harg4.unread x0) (Shape.Idx.first (numel1_S1.symm ▸ Nat.one_pos)))) (hc1 : isUnbounded (arg4.view.readAt (Elt F) (Rect.unit (s := S1) ![0] S1.size inb_S1_S1_0).toLoadRect (harg4.unread x0) (Shape.Idx.first (numel1_S1.symm ▸ Nat.one_pos)))) : Vec F S1x512x512 .bf16 :=
  VO.read (Elt F) (VO.writes (Elt F) VO.junk (runC c i arg4 harg4 arg5 harg5 arg6 harg6 arg7 harg7 arg8 harg8 x0 x1 x2 x3 hc0 hc1).1)

/-- The flag word the body reads at point `t`. -/
abbrev flag (c : Dev nD) (t : Fin cfg0.N) : BitVec 32 :=
  ((ms0_0 t).view.readAt (Elt F) (Rect.unit (s := S1) ![0] S1.size inb_S1_S1_0).toLoadRect ((hs0_0 t).unread (iblk m c 0 t)) (Shape.Idx.first (numel1_S1.symm ▸ Nat.one_pos)))

/-- What the output's staging memref holds after the body at point `t`, by the flag. -/
def outsAt (c : Dev nD) (t : Fin cfg0.N) : Vec F S1x512x512 .bf16 :=
  if h : isBounded (flag m c t) then
    outB c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) h (fun h1 => (unbounded_iff _).mp h1 h)
  else
    outC c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) h ((unbounded_iff _).mpr h)

theorem outsAt_B (c : Dev nD) (t : Fin cfg0.N) (h : isBounded (flag m c t)) :
    outsAt m c t = outB c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) h (fun h1 => (unbounded_iff _).mp h1 h) := dif_pos h

theorem outsAt_C (c : Dev nD) (t : Fin cfg0.N) (h : ¬isBounded (flag m c t)) :
    outsAt m c t = outC c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) h ((unbounded_iff _).mpr h) := dif_neg h

/-! ## The pipeline's proof data -/

/-- The proof data of the pipeline on core `c`: the arrays as the region finds them; after the body at point `t` each
    input's buffer at its block and the output's at `outsAt`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks, the flag decides which of the two runs applies, and
    its stores cover the output's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h : isBounded (flag m c t)
  · rw [outsAt_B m c t h]
    unfold outB
    iintro ⟨HΦ, Ho, ⟨%d0, H0⟩, ⟨%d1, H1⟩, ⟨%d2, H2⟩, ⟨%d3, H3⟩, ⟨%d4, H4⟩⟩
    iapply ((runB c (grid0.coords t) _ _ _ _ _ _ _ _ _ _ (iblk m c 0 t) (iblk m c 1 t) (iblk m c 2 t) (iblk m c 3 t) h (fun h1 => (unbounded_iff _).mp h1 h)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c _ _ _ _ _ _ _ _ _ _ _ _ _ _ _ _ _)
  · rw [outsAt_C m c t h]
    unfold outC
    iintro ⟨HΦ, Ho, ⟨%d0, H0⟩, ⟨%d1, H1⟩, ⟨%d2, H2⟩, ⟨%d3, H3⟩, ⟨%d4, H4⟩⟩
    iapply ((runC c (grid0.coords t) _ _ _ _ _ _ _ _ _ _ (iblk m c 0 t) (iblk m c 1 t) (iblk m c 2 t) (iblk m c 3 t) h ((unbounded_iff _).mpr h)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverC c _ _ _ _ _ _ _ _ _ _ _ _ _ _ _ _ _)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every execution terminates, with the pipeline's arrays at what the proof data compute, every other buffer
    as the region found it and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame claim: every execution terminates with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AttIdeal.Hand

end
-- ==== Proof.Att.Block.lean ====
module

public import proofs.«01_k».proof.Proof.Att.Frame
public import proofs.«01_k».proof.Proof.Gen.AttIdeal.Skeleton
public import Idealize.ShloMosaic.Lib.Pipeline.ValueKit

@[expose] public section

set_option maxRecDepth 16384

noncomputable section

namespace Cert.AttIdeal.Hand

open Cert.AttIdeal Cert.AttIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueKit

/-- The score of row `i` of a query block against key `j`: the contraction over the head dimension. -/
def score (x1 : FVec Ideal S1x1x1x2048x128 .bf16) (x2 : FVec Ideal S1x1x128x2048 .bf16) (i j : Fin 2048) : EReal :=
  ∑ x : Fin 128, x1 (ix5 0 0 0 i x) * x2 (ix4 0 0 x j)

/-- The quotient of weighted sums that both cases of the body compute: lane `d` of the values over lane `128 + d`. -/
def quotient (w : Fin 2048 → EReal) (x3 : FVec Ideal S1x1x2048x256 .bf16) (d : Fin 128) : EReal :=
  Ideal.div (∑ j, w j * x3 (ix4 0 0 j ⟨d, by omega⟩)) (∑ j, w j * x3 (ix4 0 0 j ⟨128 + d, by omega⟩))

/-- What the bounded case stores for row `i` and lane `d`. -/
def tileB (x1 : FVec Ideal S1x1x1x2048x128 .bf16) (x2 : FVec Ideal S1x1x128x2048 .bf16) (x3 : FVec Ideal S1x1x2048x256 .bf16)
    (i : Fin 2048) (d : Fin 128) : EReal :=
  quotient (fun j => FloatOps.exp2 (F := Ideal) (φ := .f32) (score x1 x2 i j)) x3 d

/-- What the other case stores: the same with the scores shifted by their row's maximum. -/
def tileC (x1 : FVec Ideal S1x1x1x2048x128 .bf16) (x2 : FVec Ideal S1x1x128x2048 .bf16) (x3 : FVec Ideal S1x1x2048x256 .bf16)
    (i : Fin 2048) (d : Fin 128) : EReal :=
  quotient (fun j => FloatOps.exp2 (F := Ideal) (φ := .f32) (score x1 x2 i j
    - Finset.fold max (Ideal.ofBits .f32 0xFF800000#32) (fun k => score x1 x2 i k) Finset.univ)) x3 d

variable (m : (ℓ : Loc nD τ sig) → Buf (Elt Ideal) ℓ)

/-- In the bounded case the block's element `y` is the tile of head `y 2 / 128` at row `y 1` and lane `y 2 % 128`. -/
theorem outsAt_bounded (c : Dev nD) (t : Fin cfg0.N) (hb : isBounded (flag m c t)) (y : S1x512x512.Idx) (i : Fin 2048)
    (d : Fin 128) (hi : (i : ℕ) = (y 2 : ℕ) / 128 * 512 + y 1) (hd : (d : ℕ) = (y 2 : ℕ) % 128) :
    outsAt m c t y = tileB (iblk m c 1 t) (iblk m c 2 t) (iblk m c 3 t) i d := by
  rw [outsAt_B m c t hb]
  frame_out
  clear hb
  generalize iblk m c 1 t = x1
  generalize iblk m c 2 t = x2
  generalize iblk m c 3 t = x3
  canon_tiles x e
  all_goals
    open_payloads
    pointwise [tileB, quotient, score]
    blk_point []

/-- In the other case it is the shifted tile. -/
theorem outsAt_unbounded (c : Dev nD) (t : Fin cfg0.N) (hb : ¬isBounded (flag m c t)) (y : S1x512x512.Idx) (i : Fin 2048)
    (d : Fin 128) (hi : (i : ℕ) = (y 2 : ℕ) / 128 * 512 + y 1) (hd : (d : ℕ) = (y 2 : ℕ) % 128) :
    outsAt m c t y = tileC (iblk m c 1 t) (iblk m c 2 t) (iblk m c 3 t) i d := by
  rw [outsAt_C m c t hb]
  frame_out
  clear hb
  generalize iblk m c 1 t = x1
  generalize iblk m c 2 t = x2
  generalize iblk m c 3 t = x3
  canon_tiles x e
  all_goals
    open_payloads
    pointwise [tileC, quotient, score]
    blk_point []

end Cert.AttIdeal.Hand

end
-- ==== Proof.Att.Entry.lean ====
module

public import proofs.«01_k».proof.Proof.Att.Block
public import Idealize.ShloMosaic.Lib.Pipeline.ValueKit

@[expose] public section

set_option maxRecDepth 16384

noncomputable section

namespace Cert.AttIdeal.Hand

open Cert.AttIdeal Cert.AttIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueKit

variable (m : (ℓ : Loc nD τ sig) → Buf (Elt Ideal) ℓ)

/-- The windows' block indices at point `t`: batch `t / 8`, key/value head `t / 4 % 2`, query block `t % 4`. -/
theorem idx_val : ∀ t : Fin cfg0.N,
  win0_1.index t = ![t.val / 8, t.val / 4 % 2, t.val % 4, 0, 0] ∧
  win0_2.index t = ![t.val / 8, t.val / 4 % 2, 0, 0] ∧
  win0_3.index t = ![t.val / 8, t.val / 4 % 2, 0, 0] ∧
  win0_4.index t = ![t.val / 8, t.val % 4, t.val / 4 % 2] := by decide +kernel

/-- The queries, keys and values the program is launched with. -/
abbrev argQ (c : Dev nD) : FVec Ideal S32x2048x8x128 .f32 := m ((c.tc : Thread nD τ).loc main_arg1)
abbrev argK (c : Dev nD) : FVec Ideal S32x2048x2x128 .f32 := m ((c.tc : Thread nD τ).loc main_arg2)
abbrev argV (c : Dev nD) : FVec Ideal S32x2048x2x128 .f32 := m ((c.tc : Thread nD τ).loc main_arg3)

/-- The factor the queries are scaled by: one over (the square root of 128 times the logarithm of 2). -/
def qscale : EReal :=
  Ideal.div (Ideal.ofBits .f32 0x3F800000#32) (Ideal.sqrt (Ideal.ofBits .f32 0x43000000#32) * Ideal.log (Ideal.ofBits .f32 0x40000000#32))

/-- An element of the query block: the query, scaled. -/
theorem qblock_at (c : Dev nD) (t : Fin cfg0.N) (i : Fin 2048) (x : Fin 128) (b : Fin 32) (p : Fin 2048) (h : Fin 8)
    (hb : (b : ℕ) = t.val / 8) (hp : (p : ℕ) = t.val % 4 * 512 + i % 512) (hh : (h : ℕ) = t.val / 4 % 2 * 4 + i / 512) :
    iblk m c 1 t (ix5 0 0 0 i x) = argQ m c (ix4 b p h x) * qscale := by
  blk_simp [iblk, idx_val t]
  entry_read
  pointwise [qscale]
  blk_point [idx_val t]

/-- An element of the key block. -/
theorem kblock_at (c : Dev nD) (t : Fin cfg0.N) (x : Fin 128) (j : Fin 2048) (b : Fin 32) (h : Fin 2)
    (hb : (b : ℕ) = t.val / 8) (hh : (h : ℕ) = t.val / 4 % 2) :
    iblk m c 2 t (ix4 0 0 x j) = argK m c (ix4 b j h x) := by
  blk_simp [iblk, idx_val t]
  entry_read
  pointwise
  blk_point [idx_val t]

/-- An element of the value block's first 128 lanes: the value. -/
theorem vblock_at (c : Dev nD) (t : Fin cfg0.N) (j : Fin 2048) (d : Fin 256) (d' : Fin 128) (hd : (d : ℕ) = d') (b : Fin 32) (h : Fin 2)
    (hb : (b : ℕ) = t.val / 8) (hh : (h : ℕ) = t.val / 4 % 2) :
    iblk m c 3 t (ix4 0 0 j d) = argV m c (ix4 b j h d') := by
  blk_simp [iblk, idx_val t]
  entry_read
  pointwise
  split
  · blk_point [idx_val t]
  · rename_i hl
    exact absurd (by blk_simp [idx_val t]; omega) hl

/-- The value block's other lanes hold ones. -/
theorem ones_at (c : Dev nD) (t : Fin cfg0.N) (j : Fin 2048) (d : Fin 256) (hd : 128 ≤ (d : ℕ)) :
    iblk m c 3 t (ix4 0 0 j d) = (1 : EReal) := by
  blk_simp [iblk, idx_val t]
  entry_read
  pointwise
  split
  · rename_i hl
    exfalso; revert hl
    blk_simp [idx_val t]; omega
  · rfl

end Cert.AttIdeal.Hand

end
-- ==== Proof.Att.Softmax.lean ====
module

public import Idealize.ShloMosaic.PureOps.Ideal
public import Idealize.ShloMosaic.Lib.Pipeline.ValueKit

@[expose] public section

noncomputable section

namespace Cert.Attention

open Idealize.ShloMosaic

/-! The algebra of a softmax over extended reals: for real scores, a quotient of weighted sums does not depend on a
    common shift of the scores, and is the sum of the normalised weights times the values. -/

/-- A nonnegative real factor moves into a finite sum of extended reals. -/
theorem sum_mul_coe {ι : Type} (s : Finset ι) (f : ι → EReal) (a : ℝ) (ha : 0 ≤ a) :
    (∑ j ∈ s, f j) * (a : EReal) = ∑ j ∈ s, f j * (a : EReal) := by
  classical
  induction s using Finset.induction_on with
  | empty => simp
  | insert j s hj ih =>
    rw [Finset.sum_insert hj, Finset.sum_insert hj, ← ih]
    exact EReal.right_distrib_of_nonneg_of_ne_top (by exact_mod_cast ha) (EReal.coe_ne_top a) _ _

/-- A finite sum of reals, taken in the extended reals. -/
theorem coe_sum {ι : Type} (s : Finset ι) (f : ι → ℝ) : ∑ j ∈ s, ((f j : ℝ) : EReal) = ((∑ j ∈ s, f j : ℝ) : EReal) := by
  classical
  induction s using Finset.induction_on with
  | empty => simp
  | insert j s hj ih => rw [Finset.sum_insert hj, Finset.sum_insert hj, ih, EReal.coe_add]

/-- Softmax: the shifted exponentials' weighted sum over their sum is the sum of the weights of any other shift. -/
theorem quotient_eq_softmax {n : ℕ} [NeZero n] (r : Fin n → ℝ) (a b : ℝ) (v : Fin n → EReal) :
    Ideal.div (∑ j, ((Real.exp (r j - a) : ℝ) : EReal) * v j) (∑ j, ((Real.exp (r j - a) : ℝ) : EReal) * 1)
      = ∑ j, Ideal.div ((Real.exp (r j - b) : ℝ) : EReal) (∑ k, ((Real.exp (r k - b) : ℝ) : EReal)) * v j := by
  have pa : 0 < ∑ j, Real.exp (r j - a) := Finset.sum_pos (fun _ _ => Real.exp_pos _) ⟨0, Finset.mem_univ _⟩
  have pb : 0 < ∑ j, Real.exp (r j - b) := Finset.sum_pos (fun _ _ => Real.exp_pos _) ⟨0, Finset.mem_univ _⟩
  have hab : ∑ j, Real.exp (r j - a) = Real.exp (b - a) * ∑ j, Real.exp (r j - b) := by
    rw [Finset.mul_sum]
    refine Finset.sum_congr rfl fun j _ => ?_
    rw [← Real.exp_add]; congr 1; ring
  simp only [mul_one, coe_sum]
  have na : ((∑ j, Real.exp (r j - a) : ℝ) : EReal) ≠ 0 := by exact_mod_cast pa.ne'
  have nb : ((∑ j, Real.exp (r j - b) : ℝ) : EReal) ≠ 0 := by exact_mod_cast pb.ne'
  unfold Ideal.div
  rw [if_neg na, ← EReal.coe_inv, sum_mul_coe _ _ _ (inv_nonneg.mpr pa.le)]
  refine Finset.sum_congr rfl fun j _ => ?_
  rw [if_neg nb, ← EReal.coe_inv, mul_right_comm, ← EReal.coe_mul, ← EReal.coe_mul]
  congr 2
  rw [hab, mul_inv, show r j - a = (r j - b) + (b - a) by ring, Real.exp_add]
  have := (Real.exp_pos (b - a)).ne'
  field_simp

/-- Two to the power of a real over the logarithm of two is the exponential. -/
theorem exp2_div_log (r : ℝ) : FloatOps.exp2 (F := Ideal) (φ := .f32) (((r / Real.log 2 : ℝ)) : EReal) = ((Real.exp r : ℝ) : EReal) := by
  have h2 : Real.log 2 ≠ 0 := (Real.log_pos (by norm_num)).ne'
  have : Real.rpow 2 (r / Real.log 2) = Real.exp r := by
    change (2 : ℝ) ^ (r / Real.log 2) = _
    rw [Real.rpow_def_of_pos (by norm_num), mul_div_cancel₀ _ h2]
  rw [← this]
  rfl

/-- The maximum of real numbers, taken from −∞, is real. -/
theorem fold_max_real {n : ℕ} [NeZero n] (f : Fin n → EReal) (r : Fin n → ℝ) (hf : ∀ j, f j = r j) :
    ∃ M : ℝ, Finset.fold max (⊥ : EReal) f Finset.univ = M := by
  classical
  have key : ∀ s : Finset (Fin n), s.Nonempty → ∃ M : ℝ, Finset.fold max (⊥ : EReal) f s = M := by
    intro s hs
    induction hs using Finset.Nonempty.cons_induction with
    | singleton a => exact ⟨r a, by simp [hf]⟩
    | cons a s ha hs ih =>
      obtain ⟨M, hM⟩ := ih
      exact ⟨max (r a) M, by rw [Finset.fold_cons, hM, hf]; exact (EReal.coe_strictMono.monotone.map_max).symm⟩
  exact key _ ⟨0, Finset.mem_univ _⟩

/-- A maximum over a list of reals, taken from −∞ or a real, is real when the list is not empty. -/
theorem foldl_max_real {ι : Type} (f : ι → EReal) (hf : ∀ j, ∃ r : ℝ, f j = r) :
    ∀ (l : List ι) (z : EReal), (z = ⊥ ∧ l ≠ []) ∨ (∃ r : ℝ, z = r) → ∃ M : ℝ, l.foldl (fun z j => max z (f j)) z = M
  | [], z, h => by
    rcases h with ⟨_, h⟩ | h
    · exact absurd rfl h
    · exact h
  | a :: l, z, h => by
    refine foldl_max_real f hf l _ (.inr ?_)
    obtain ⟨r, hr⟩ := hf a
    rcases h with ⟨rfl, _⟩ | ⟨w, rfl⟩
    · exact ⟨r, by simp [hr]⟩
    · exact ⟨max w r, by simp only [hr]; exact (EReal.coe_strictMono.monotone.map_max).symm⟩

/-- The literal the maxima start from. -/
theorem ofBits_neg_inf : Ideal.ofBits .f32 0xFF800000#32 = (⊥ : EReal) := by simp [Ideal.ofBits, Ideal.ieee]

/-- A maximum-reduction of reals, from −∞, is real wherever some element reduces into it. -/
theorem reduce_max_real {s t u : Shape} {axes : List (Fin s.rank)} (x : FVec Ideal s .f32) (h : s.ReducesTo axes t)
    (hu : 0 < u.numel) (j : t.Idx) (i : s.Idx) (hi : h.drop i = j) (hx : ∀ i, ∃ r : ℝ, x i = (r : EReal)) :
    ∃ M : ℝ, Host.reduce FloatOps.maximumf x (constant u .f32 0xFF800000#32) h hu j = (M : EReal) := by
  rw [Host.reduce_eq_foldl]
  refine foldl_max_real x hx _ _ (.inl ⟨ofBits_neg_inf, ?_⟩)
  refine List.ne_nil_of_mem (a := i) ?_
  rw [List.mem_filter]
  exact ⟨List.mem_map.2 ⟨s.rowMajor i, List.mem_finRange _, Equiv.symm_apply_apply _ _⟩, by simp [hi]⟩

/-- The literals of both programs. -/
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_headdim : Ideal.ofBits .f32 0x43000000#32 = ((128 : ℝ) : EReal) := by
  simp [Ideal.ofBits, Ideal.ieee, -EReal.coe_mul]; norm_num

end Cert.Attention

end
-- ==== Proof.Att.Ref.lean ====
module

public import proofs.«01_k».proof.Proof.Gen.AttRefIdeal.Run
public import proofs.«01_k».proof.Proof.Att.Softmax
public import Idealize.ShloMosaic.Lib.Pipeline.ValueKit

@[expose] public section

set_option maxRecDepth 16384

noncomputable section

namespace Cert.AttRefIdeal.Hand

open Cert.AttRefIdeal Cert.AttRefIdeal.Gen
open Idealize.ShloMosaic Idealize.ShloMosaic.TcCoe Idealize.ShloMosaic.Tactic
open Idealize.SL Idealize.SL.Sem
open Idealize.ShloMosaic.ValueKit

/-- The scaled scores of every query against every key of its key/value head. -/
def scores (q : FVec Ideal S32x2048x8x128 .f32) (k : FVec Ideal S32x2048x2x128 .f32) : FVec Ideal S32x2x4x2048x2048 .f32 :=
  mulf (Host.dotGeneral dot_S32x2x4x2048x128_S32x2x2048x128_S32x2x4x2048x2048_4_3_23_2_01_01 none (transpose S32x2x4x2048x128 [0, 2, 3, 1, 4] (shapeCast _ q shapeCasts_S32x2048x8x128_S32x2048x2x4x128) transposes_S32x2048x2x4x128_S32x2x4x2048x128_0_2_3_1_4) (transpose S32x2x2048x128 [0, 2, 1, 3] k transposes_S32x2048x2x128_S32x2x2048x128_0_2_1_3)) (broadcastInDim S32x2x4x2048x2048 ![] bcast_S_S32x2x4x2048x2048 (Host.divf (constant S_ .f32 0x3F800000#32) (Host.sqrt (constant S_ .f32 0x43000000#32))))

/-- Every row's maximum. -/
def rowMax (s : FVec Ideal S32x2x4x2048x2048 .f32) : FVec Ideal S32x2x4x2048 .f32 :=
  Host.reduce FloatOps.maximumf s (constant S_ .f32 0xFF800000#32) reducesTo_S32x2x4x2048x2048_S32x2x4x2048_d4 h_S_

/-- The exponentials of the scores, each row shifted by the given maximum. -/
def shifted (s : FVec Ideal S32x2x4x2048x2048 .f32) (M : FVec Ideal S32x2x4x2048 .f32) : FVec Ideal S32x2x4x2048x2048 .f32 :=
  Host.exp (subf s (broadcastInDim S32x2x4x2048x2048 ![0, 1, 2, 3, 4] bcast_S32x2x4x2048x1_S32x2x4x2048x2048_0_1_2_3_4 (broadcastInDim S32x2x4x2048x1 ![0, 1, 2, 3] bcast_S32x2x4x2048_S32x2x4x2048x1_0_1_2_3 (maximumf (broadcastInDim S32x2x4x2048 ![] bcast_S_S32x2x4x2048 (constant S_ .f32 0xFF800000#32)) M))))

/-- The softmax weights: the exponentials over their row sums. -/
def weights (e : FVec Ideal S32x2x4x2048x2048 .f32) : FVec Ideal S32x2x4x2048x2048 .f32 :=
  Host.divf e (broadcastInDim S32x2x4x2048x2048 ![0, 1, 2, 3, 4] bcast_S32x2x4x2048x1_S32x2x4x2048x2048_0_1_2_3_4 (broadcastInDim S32x2x4x2048x1 ![0, 1, 2, 3] bcast_S32x2x4x2048_S32x2x4x2048x1_0_1_2_3 (Host.reduceAdd e (constant S_ .f32 0x00000000#32) reducesTo_S32x2x4x2048x2048_S32x2x4x2048_d4 h_S_)))

/-- The weights applied to the values, the heads side by side. -/
def applied (w : FVec Ideal S32x2x4x2048x2048 .f32) (v : FVec Ideal S32x2048x2x128 .f32) : FVec Ideal S32x2048x1024 .bf16 :=
  truncf .bf16 (shapeCast S32x2048x1024 (transpose S32x2048x2x4x128 [0, 3, 1, 2, 4] (Host.dotGeneral dot_S32x2x4x2048x2048_S32x2x2048x128_S32x2x4x2048x128_4_2_23_3_01_01 none w (transpose S32x2x2048x128 [0, 2, 1, 3] v transposes_S32x2048x2x128_S32x2x2048x128_0_2_1_3)) transposes_S32x2x4x2048x128_S32x2048x2x4x128_0_3_1_2_4) shapeCasts_S32x2048x2x4x128_S32x2048x1024) bitsLt_bf16_f32

/-- The reference's result. -/
def attention (q : FVec Ideal S32x2048x8x128 .f32) (k v : FVec Ideal S32x2048x2x128 .f32) : FVec Ideal S32x2048x1024 .bf16 :=
  applied (weights (shifted (scores q k) (rowMax (scores q k)))) v

/-- The reference's scale: one over the square root of the head dimension. -/
def scale : EReal := Ideal.div 1 (Ideal.sqrt (Ideal.ofBits .f32 0x43000000#32))

theorem scores_apply (q : FVec Ideal S32x2048x8x128 .f32) (k : FVec Ideal S32x2048x2x128 .f32) (b : Fin 32) (h : Fin 2) (g : Fin 4) (i j : Fin 2048)
    (n : Fin 8) (hn : (n : ℕ) = h * 4 + g) :
    scores q k (ix5 b h g i j) = (∑ x, q (ix4 b i n x) * k (ix4 b j h x)) * scale := by
  have e : n = ⟨h * 4 + g, by omega⟩ := Fin.ext hn
  rw [e]
  pointwise [scores, scale]

theorem shifted_apply (s : FVec Ideal S32x2x4x2048x2048 .f32) (M : FVec Ideal S32x2x4x2048 .f32) (b : Fin 32) (h : Fin 2) (g : Fin 4) (i j : Fin 2048) :
    shifted s M (ix5 b h g i j) = Ideal.exp (s (ix5 b h g i j) - max (Ideal.ofBits .f32 0xFF800000#32) (M (ix4 b h g i))) := by
  pointwise [shifted]

theorem weights_apply (e : FVec Ideal S32x2x4x2048x2048 .f32) (b : Fin 32) (h : Fin 2) (g : Fin 4) (i j : Fin 2048) :
    weights e (ix5 b h g i j) = Ideal.div (e (ix5 b h g i j)) (∑ x, e (ix5 b h g i x)) := by
  pointwise [weights]

theorem applied_apply (w : FVec Ideal S32x2x4x2048x2048 .f32) (v : FVec Ideal S32x2048x2x128 .f32) (z : S32x2048x1024.Idx) (b : Fin 32)
    (p : Fin 2048) (h : Fin 2) (g : Fin 4) (d : Fin 128) (hb : (b : ℕ) = z 0) (hp : (p : ℕ) = z 1) (hh : (h : ℕ) = (z 2 : ℕ) / 512)
    (hg : (g : ℕ) = (z 2 : ℕ) / 128 % 4) (hd : (d : ℕ) = (z 2 : ℕ) % 128) :
    applied w v z = ∑ x, w (ix5 b h g p x) * v (ix4 b x h d) := by
  have eb : b = z 0 := Fin.ext hb
  have ep : p = z 1 := Fin.ext hp
  have eh : h = ⟨(z 2 : ℕ) / 512, by omega⟩ := Fin.ext hh
  have eg : g = ⟨(z 2 : ℕ) / 128 % 4, by omega⟩ := Fin.ext hg
  have ed : d = ⟨(z 2 : ℕ) % 128, by omega⟩ := Fin.ext hd
  rw [eb, ep, eh, eg, ed]
  pointwise [applied]

/-- The row maxima of real scores are real. -/
theorem rowMax_real (s : FVec Ideal S32x2x4x2048x2048 .f32) (hs : ∀ i, ∃ r : ℝ, s i = (r : EReal)) (b : Fin 32) (h : Fin 2) (g : Fin 4)
    (i : Fin 2048) : ∃ M : ℝ, rowMax s (ix4 b h g i) = (M : EReal) :=
  Cert.Attention.reduce_max_real s _ _ _ (ix5 b h g i 0) (by funext a; fin_cases a <;> rfl) hs

theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = attention (m ((c.tc : Thread nD τ).loc main_arg1)) (m ((c.tc : Thread nD τ).loc main_arg2)) (m ((c.tc : Thread nD τ).loc main_arg3)) :=
  (θ_run defs _ _).mono (fun _ h c => (h c).1.trans (by unfold attention applied weights shifted rowMax scores; rfl)) (Cert.AttRefIdeal.Value.run (F := Ideal) m ρ)

end Cert.AttRefIdeal.Hand
-- ==== Proof.Att.Final.lean ====
module

public import proofs.«01_k».proof.Proof.Att.Entry
public import proofs.«01_k».proof.Proof.Att.Ref

@[expose] public section

set_option maxRecDepth 16384

noncomputable section

namespace Cert.AttIdeal.Hand

open Cert.AttIdeal Cert.AttIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueKit
open Cert.Attention
open Cert.AttRefIdeal.Hand (attention scores shifted rowMax weights applied scale)

/-- The square root of the head dimension, as a real. -/
theorem sqrt_headdim : Ideal.sqrt (Ideal.ofBits .f32 0x43000000#32) = ((Real.sqrt 128 : ℝ) : EReal) := by
  rw [ofBits_headdim, Ideal.sqrt_coe, if_neg (by norm_num)]

/-- The reference's scale as a real. -/
theorem scale_eq : scale = ((1 / Real.sqrt 128 : ℝ) : EReal) := by
  have h : (Real.sqrt 128) ≠ 0 := (Real.sqrt_pos.mpr (by norm_num)).ne'
  unfold scale
  rw [sqrt_headdim, show (1 : EReal) = ((1 : ℝ) : EReal) from rfl, Ideal.div_coe h]
  rw [← EReal.coe_mul, one_mul]

/-- The kernel's factor as a real. -/
theorem qscale_eq : qscale = ((1 / (Real.sqrt 128 * Real.log 2) : ℝ) : EReal) := by
  have h : Real.sqrt 128 * Real.log 2 ≠ 0 :=
    (mul_pos (Real.sqrt_pos.mpr (by norm_num)) (Real.log_pos (by norm_num))).ne'
  have hl : Ideal.log ((2 : ℝ) : EReal) = ((Real.log 2 : ℝ) : EReal) := by
    change (if (2 : ℝ) ≤ 0 then (⊥ : EReal) else _) = _
    rw [if_neg (by norm_num)]
  unfold qscale
  rw [sqrt_headdim, ofBits_one, ofBits_two, hl, ← EReal.coe_mul, Ideal.div_coe h]
  rw [← EReal.coe_mul, one_mul]

/-- The real score of a query against a key, scaled. -/
def rscore (q : S32x2048x8x128.Idx → ℝ) (k : S32x2048x2x128.Idx → ℝ) (b : Fin 32) (p : Fin 2048) (n : Fin 8) (h : Fin 2) (j : Fin 2048) : ℝ :=
  (∑ x, q (ix4 b p n x) * k (ix4 b j h x)) * (1 / Real.sqrt 128)

/-- The reference on finite queries and keys: a softmax of the real scores, at some shift. -/
theorem attention_apply (q : FVec Ideal S32x2048x8x128 .f32) (k v : FVec Ideal S32x2048x2x128 .f32)
    (q' : S32x2048x8x128.Idx → ℝ) (k' : S32x2048x2x128.Idx → ℝ) (hq : ∀ i, q i = (q' i : EReal)) (hk : ∀ i, k i = (k' i : EReal))
    (z : S32x2048x1024.Idx) (b : Fin 32) (p : Fin 2048) (n : Fin 8) (h : Fin 2) (d : Fin 128) (hb : (b : ℕ) = z 0) (hp : (p : ℕ) = z 1)
    (hn : (n : ℕ) = (z 2 : ℕ) / 128) (hh : (h : ℕ) = (z 2 : ℕ) / 512) (hd : (d : ℕ) = (z 2 : ℕ) % 128) :
    ∃ M : ℝ, attention q k v z = ∑ j, Ideal.div ((Real.exp (rscore q' k' b p n h j - M) : ℝ) : EReal)
      (∑ l, ((Real.exp (rscore q' k' b p n h l - M) : ℝ) : EReal)) * v (ix4 b j h d) := by
  have hs : ∀ (b : Fin 32) (h : Fin 2) (g : Fin 4) (i j : Fin 2048), scores q k (ix5 b h g i j)
      = ((rscore q' k' b i ⟨h * 4 + g, by omega⟩ h j : ℝ) : EReal) := by
    intro b h g i j
    rw [Cert.AttRefIdeal.Hand.scores_apply q k b h g i j ⟨h * 4 + g, by omega⟩ rfl, scale_eq]
    simp only [hq, hk, ← EReal.coe_mul, coe_sum]
    rfl
  have hr : ∀ i, ∃ r : ℝ, scores q k i = (r : EReal) := fun i => ⟨_, by
    rw [← hs (i 0) (i 1) (i 2) (i 3) (i 4)]; congr 1; funext a; fin_cases a <;> rfl⟩
  have hg : (z 2 : ℕ) / 128 % 4 < 4 := Nat.mod_lt _ (by norm_num)
  obtain ⟨M, hM⟩ := Cert.AttRefIdeal.Hand.rowMax_real (scores q k) hr b h ⟨(z 2 : ℕ) / 128 % 4, hg⟩ p
  refine ⟨M, ?_⟩
  have en : n = ⟨h * 4 + ((⟨(z 2 : ℕ) / 128 % 4, hg⟩ : Fin 4) : ℕ), by omega⟩ := Fin.ext (by simp only; omega)
  have he : ∀ j, shifted (scores q k) (rowMax (scores q k)) (ix5 b h ⟨(z 2 : ℕ) / 128 % 4, hg⟩ p j)
      = ((Real.exp (rscore q' k' b p n h j - M) : ℝ) : EReal) := by
    intro j
    rw [Cert.AttRefIdeal.Hand.shifted_apply, hM, hs, ofBits_neg_inf, max_eq_right bot_le, ← EReal.coe_sub, ← en]
    rfl
  unfold attention
  rw [Cert.AttRefIdeal.Hand.applied_apply _ v z b p h ⟨(z 2 : ℕ) / 128 % 4, hg⟩ d hb hp hh rfl hd]
  refine Finset.sum_congr rfl fun j _ => ?_
  rw [Cert.AttRefIdeal.Hand.weights_apply]
  simp only [he]

/-- The kernel's score, from a scaled query row and a key column: the real score over the logarithm of two. -/
theorem score_of (x1 : FVec Ideal S1x1x1x2048x128 .bf16) (x2 : FVec Ideal S1x1x128x2048 .bf16) (i j : Fin 2048) (q k : Fin 128 → ℝ)
    (hq : ∀ x, x1 (ix5 0 0 0 i x) = (q x : EReal) * qscale) (hk : ∀ x, x2 (ix4 0 0 x j) = (k x : EReal)) :
    score x1 x2 i j = (((∑ x, q x * k x) * (1 / Real.sqrt 128) / Real.log 2 : ℝ) : EReal) := by
  have e : ∀ x, x1 (ix5 0 0 0 i x) * x2 (ix4 0 0 x j) = ((q x * (1 / (Real.sqrt 128 * Real.log 2)) * k x : ℝ) : EReal) := by
    intro x
    rw [hq, hk, qscale_eq, EReal.coe_mul, EReal.coe_mul]
  unfold score
  refine (Finset.sum_congr rfl fun x _ => e x).trans ?_
  rw [coe_sum]
  congr 1
  rw [Finset.sum_mul, Finset.sum_div]
  refine Finset.sum_congr rfl fun x _ => ?_
  have h1 : (Real.sqrt 128) ≠ 0 := (Real.sqrt_pos.mpr (by norm_num)).ne'
  have h2 : Real.log 2 ≠ 0 := (Real.log_pos (by norm_num)).ne'
  field_simp

/-- The quotient at weights and a block given by real exponentials, values and ones: the softmax at any shift. -/
theorem quotient_of (w : Fin 2048 → EReal) (x3 : FVec Ideal S1x1x2048x256 .bf16) (d : Fin 128) (r : Fin 2048 → ℝ) (v : Fin 2048 → EReal)
    (a M : ℝ) (hw : ∀ j, w j = ((Real.exp (r j - a) : ℝ) : EReal)) (hv : ∀ j, x3 (ix4 0 0 j ⟨d, by omega⟩) = v j)
    (h1 : ∀ j, x3 (ix4 0 0 j ⟨128 + d, by omega⟩) = 1) :
    quotient w x3 d = ∑ j, Ideal.div ((Real.exp (r j - M) : ℝ) : EReal) (∑ l, ((Real.exp (r l - M) : ℝ) : EReal)) * v j := by
  rw [← quotient_eq_softmax r a M]
  unfold quotient
  simp only [hw, hv, h1]

variable (m : (ℓ : Loc nD τ sig) → Buf (Elt Ideal) ℓ)

section Point

variable (c : Dev nD) (t : Fin cfg0.N) (q' : S32x2048x8x128.Idx → ℝ) (k' : S32x2048x2x128.Idx → ℝ)
  (hq : ∀ i, argQ m c i = (q' i : EReal)) (hk : ∀ i, argK m c i = (k' i : EReal))
  (b : Fin 32) (p : Fin 2048) (n : Fin 8) (h : Fin 2) (i : Fin 2048)
  (hb : (b : ℕ) = t.val / 8) (hp : (p : ℕ) = t.val % 4 * 512 + i % 512) (hn : (n : ℕ) = t.val / 4 % 2 * 4 + i / 512)
  (hh : (h : ℕ) = t.val / 4 % 2)

include hq hk hb hp hn hh

/-- The kernel's scores: the real scores over the logarithm of two. -/
theorem score_eq (j : Fin 2048) : score (iblk m c 1 t) (iblk m c 2 t) i j = ((rscore q' k' b p n h j / Real.log 2 : ℝ) : EReal) := by
  exact score_of _ _ i j (fun x => q' (ix4 b p n x)) (fun x => k' (ix4 b j h x))
    (fun x => by rw [qblock_at m c t i x b p n hb hp hn, hq]) (fun x => by rw [kblock_at m c t x j b h hb hh, hk])

/-- A quotient of sums weighted by exponentials of the scores at any shift, over the value block: the softmax. -/
theorem quotient_eq (w : Fin 2048 → EReal) (a M : ℝ) (hw : ∀ j, w j = ((Real.exp (rscore q' k' b p n h j - a) : ℝ) : EReal)) (d : Fin 128) :
    quotient w (iblk m c 3 t) d = ∑ j, Ideal.div ((Real.exp (rscore q' k' b p n h j - M) : ℝ) : EReal)
      (∑ l, ((Real.exp (rscore q' k' b p n h l - M) : ℝ) : EReal)) * argV m c (ix4 b j h d) := by
  exact quotient_of _ _ d _ _ a M hw (fun j => vblock_at m c t j _ d rfl b h hb hh) (fun j => ones_at m c t j _ (Nat.le_add_right _ _))

/-- The bounded case's tile is the softmax of the real scores. -/
theorem tileB_eq (d : Fin 128) (M : ℝ) : tileB (iblk m c 1 t) (iblk m c 2 t) (iblk m c 3 t) i d
    = ∑ j, Ideal.div ((Real.exp (rscore q' k' b p n h j - M) : ℝ) : EReal)
      (∑ l, ((Real.exp (rscore q' k' b p n h l - M) : ℝ) : EReal)) * argV m c (ix4 b j h d) := by
  refine quotient_eq m c t q' k' hq hk b p n h i hb hp hn hh _ 0 M (fun j => ?_) d
  rw [score_eq m c t q' k' hq hk b p n h i hb hp hn hh, exp2_div_log, sub_zero]

/-- So is the other case's. -/
theorem tileC_eq (d : Fin 128) (M : ℝ) : tileC (iblk m c 1 t) (iblk m c 2 t) (iblk m c 3 t) i d
    = ∑ j, Ideal.div ((Real.exp (rscore q' k' b p n h j - M) : ℝ) : EReal)
      (∑ l, ((Real.exp (rscore q' k' b p n h l - M) : ℝ) : EReal)) * argV m c (ix4 b j h d) := by
  have hs := score_eq m c t q' k' hq hk b p n h i hb hp hn hh
  obtain ⟨a, ha⟩ := fold_max_real (fun j => score (iblk m c 1 t) (iblk m c 2 t) i j) _ hs
  have h2 : Real.log 2 ≠ 0 := (Real.log_pos (by norm_num)).ne'
  refine quotient_eq m c t q' k' hq hk b p n h i hb hp hn hh _ (a * Real.log 2) M (fun j => ?_) d
  rw [ofBits_neg_inf, ha, hs, ← EReal.coe_sub, ← exp2_div_log]
  congr 2
  field_simp

end Point

/-- The result array after the run is the reference's, for finite queries and keys. -/
theorem final (c : Dev nD) (q' : S32x2048x8x128.Idx → ℝ) (k' : S32x2048x2x128.Idx → ℝ)
    (hq : ∀ i, argQ m c i = (q' i : EReal)) (hk : ∀ i, argK m c i = (k' i : EReal)) :
    (dats m 0 c).arrAt 4 (cfgs 0).N = attention (argQ m c) (argK m c) (argV m c) := by
  have point : ∀ (t : Fin cfg0.N) (y : S1x512x512.Idx) (z : S32x2048x1024.Idx), (z 0 : ℕ) = t.val / 8 → (z 1 : ℕ) = t.val % 4 * 512 + y 1 →
      (z 2 : ℕ) = t.val / 4 % 2 * 512 + y 2 → outsAt m c t y = attention (argQ m c) (argK m c) (argV m c) z := by
    intro t y z h0 h1 h2
    have y1 : (y 1 : ℕ) < 512 := (y 1).isLt
    have y2 : (y 2 : ℕ) < 512 := (y 2).isLt
    have z2 : (z 2 : ℕ) < 1024 := (z 2).isLt
    obtain ⟨M, hM⟩ := attention_apply (argQ m c) (argK m c) (argV m c) q' k' hq hk z (z 0) (z 1) ⟨(z 2 : ℕ) / 128, by omega⟩
      ⟨(z 2 : ℕ) / 512, by omega⟩ ⟨(z 2 : ℕ) % 128, by omega⟩ rfl rfl rfl rfl rfl
    rw [hM]
    by_cases hf : isBounded (flag m c t)
    · rw [outsAt_bounded m c t hf y ⟨(y 2 : ℕ) / 128 * 512 + y 1, by omega⟩ ⟨(z 2 : ℕ) % 128, by omega⟩ rfl (by simp only; omega)]
      exact tileB_eq m c t q' k' hq hk (z 0) (z 1) _ _ _ h0 (by simp only; omega) (by simp only; omega) (by simp only; omega) _ M
    · rw [outsAt_unbounded m c t hf y ⟨(y 2 : ℕ) / 128 * 512 + y 1, by omega⟩ ⟨(z 2 : ℕ) % 128, by omega⟩ rfl (by simp only; omega)]
      exact tileC_eq m c t q' k' hq hk (z 0) (z 1) _ _ _ h0 (by simp only; omega) (by simp only; omega) (by simp only; omega) _ M
  refine (dats m 0 c).arrAt_eq_of_covers 4 _ (by decide +kernel) fun t hf y => ?_
  blk_simp
  rw [after0_4]
  refine point t y _ ?_ ?_ ?_
  all_goals (blk_simp [idx_val t] <;> try omega)

end Cert.AttIdeal.Hand

end
-- ==== Proof.Att.Pre.lean ====
module

public import proofs.«01_k».proof.Proof.Gen.Pre_finite_qk
public import proofs.«01_k».proof.Proof.Att.Softmax
public import Idealize.ShloMosaic.Lib.ReduceAll
public import Idealize.ShloMosaic.PureOps.Ideal

@[expose] public section

set_option maxRecDepth 16384

noncomputable section

namespace Cert.Attention

open Idealize.ShloMosaic

/-- The literal the precondition compares with is +∞. -/
theorem ofBits_pos_inf : Ideal.ofBits .f32 0x7F800000#32 = (⊤ : EReal) := by simp [Ideal.ofBits, Ideal.ieee]

/-- A value whose absolute value lies below +∞ is a real number. -/
theorem real_of_abs_lt {x : EReal} (h : max x (-x) < ⊤) : ((x.toReal : ℝ) : EReal) = x := by
  refine EReal.coe_toReal ?_ ?_
  · rintro rfl; simp at h
  · rintro rfl; simp at h

/-- The comparison's word at an index, read back. -/
theorem real_of_cmp {x y : EReal} (hy : y = ⊤) (h : Ideal.cmp .olt (max x (-x)) y = 1#1) : ((x.toReal : ℝ) : EReal) = x := by
  subst hy
  refine real_of_abs_lt ?_
  by_contra hn
  rw [Ideal.cmp, decide_eq_false hn] at h
  exact absurd h (by decide)

instance : Subsingleton Cert.Pre_finite_qk.S_.Idx := ⟨fun a b => by funext i; exact i.elim0⟩

/-- The precondition says that every query and every key is a real number. -/
theorem finite_qk_real (b : IVec Cert.Pre_finite_qk.S1 32) (q : FVec Ideal Cert.Pre_finite_qk.S32x2048x8x128 .f32)
    (k v : FVec Ideal Cert.Pre_finite_qk.S32x2048x2x128 .f32)
    (h : Cert.Pre_finite_qk.fn (F := Ideal) b q k v = fun _ => 1#1) :
    (∀ i, (((q i : EReal).toReal : ℝ) : EReal) = q i) ∧ ∀ i, (((k i : EReal).toReal : ℝ) : EReal) = k i := by
  have h0 := congrFun h (Shape.Idx.first Cert.Pre_finite_qk.Gen.h_S_)
  have h1 := IntOp.andi_eq_one.1 h0
  exact ⟨fun i => real_of_cmp ofBits_pos_inf (Host.reduce_andi_all _ _ _ _ _ h1.1 i),
    fun i => real_of_cmp ofBits_pos_inf (Host.reduce_andi_all _ _ _ _ _ h1.2 i)⟩

end Cert.Attention

end
-- ==== Proof.AttClaim.lean ====
module

public import proofs.«01_k».proof.Defs
public import proofs.«01_k».proof.Proof.Att.Frame
public import proofs.«01_k».proof.Proof.Att.Final
public import proofs.«01_k».proof.Proof.Att.Pre
public import proofs.«01_k».proof.Proof.Att.Ref
public import Idealize.ShloMosaic.Lib.Quiescent

@[expose] public section

noncomputable section

namespace Cert.Proof

open Idealize.ShloMosaic Idealize.SL Idealize.SL.Sem

/-- The reference of the attention leaves its arguments alone and every counter at zero. -/
theorem attRef_frame : Cert.quiescent_AttRefIdeal := fun m ρ _ =>
  (θ_run _ _ _).mono (fun r h => ⟨fun c => (h c).2, Idealize.ShloMosaic.sem_eq_zero_of_no_sems (by decide) r.2⟩)
    (Cert.AttRefIdeal.Value.run (F := Ideal) m ρ)

/-- What the kernel's execution leaves: the softmax attention of its arguments, which are unchanged. -/
theorem att_run (m : (ℓ : Loc Cert.AttIdeal.nD Cert.AttIdeal.τ Cert.AttIdeal.sig) → Buf (Elt Ideal) ℓ) (ρ : Dev Cert.AttIdeal.nD → PrngReg)
    (hpre : Cert.Pre_AttIdeal_finite_qk m) :
    θ_run (Cert.AttIdeal.defs (F := Ideal)) (onTc (τ := Cert.AttIdeal.τ) (Cert.AttIdeal.main (F := Ideal))) ⟨m, fun _ => 0, ρ⟩ (fun r => ∀ c : Dev Cert.AttIdeal.nD,
      r.2.mem ((c.tc : Thread Cert.AttIdeal.nD Cert.AttIdeal.τ).loc Cert.AttIdeal.main_v16)
          = Cert.AttRefIdeal.Hand.attention (Cert.AttIdeal.Hand.argQ m c) (Cert.AttIdeal.Hand.argK m c) (Cert.AttIdeal.Hand.argV m c)
      ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3)) := by
  refine (θ_run _ _ _).mono (fun r h c => ⟨((h.1 c).1 4).trans ?_, h.2.1 c⟩)
    (θ_run_and (Cert.AttIdeal.Hand.run_main m ρ) (Cert.AttIdeal.Hand.frame m ρ))
  have hr := Cert.Attention.finite_qk_real _ _ _ _ (hpre c)
  exact Cert.AttIdeal.Hand.final m c _ _ (fun i => (hr.1 i).symm) fun i => (hr.2 i).symm

/-- The attention: kernel and reference leave the same array. -/
theorem att_algebraic : Cert.algebraic_AttIdeal_AttRefIdeal_pre_finite_qk := by
  intro m ρ m' ρ' hpre hagree
  refine ⟨_, att_run m ρ hpre, (θ_run _ _ _).mono (fun _ h c => ⟨(h.1 c).trans ?_, (h.2 c).2⟩)
    (θ_run_and (Cert.AttRefIdeal.Hand.run_at m' ρ') (Cert.AttRefIdeal.Value.run (F := Ideal) m' ρ'))⟩
  obtain ⟨_, h1, h2, h3⟩ := hagree c
  rw [h1, h2, h3]

end Cert.Proof

end
-- ==== Proof.Norm.lean ====
module

public import Idealize.ShloMosaic.PureOps.Ideal
public import Idealize.ShloMosaic.Lib.Pipeline.ValueKit

@[expose] public section

noncomputable section

namespace Cert.Norm

open Idealize.ShloMosaic
open scoped BigOperators

/-- The mean of a row of 1024 elements. -/
def mean (z : Fin 1024 → EReal) : EReal := Ideal.div (∑ k, z k) (Ideal.ofBits .f32 0x44800000#32)

/-- The layer norm of a row `z` with weights `w` and biases `b`, at column `d`. -/
def lnRow (z w b : Fin 1024 → EReal) (d : Fin 1024) : EReal :=
  (z d - mean z) * Ideal.rsqrt (mean (fun k => (z k - mean z) * (z k - mean z)) + Ideal.ofBits .f32 0x3727C5AC#32) * w d + b d

end Cert.Norm

end
-- ==== Proof.Ffn.Ref.lean ====
module

public import proofs.«01_k».proof.Proof.Gen.FfnRefIdeal.Run
public import proofs.«01_k».proof.Proof.Norm
public import Idealize.ShloMosaic.Lib.Pipeline.ValueKit

@[expose] public section

set_option maxRecDepth 16384

noncomputable section

namespace Cert.FfnRefIdeal.Hand

open Cert.FfnRefIdeal Cert.FfnRefIdeal.Gen
open Idealize.ShloMosaic Idealize.ShloMosaic.TcCoe Idealize.ShloMosaic.Tactic
open Idealize.SL Idealize.SL.Sem
open Idealize.ShloMosaic.ValueKit
open Cert.Norm

/-- Both halves of the hidden layer before the gate: every row times the input matrix. -/
def inner (x : FVec Ideal S65536x1024 .f32) (w : FVec Ideal S1024x5632 .f32) : FVec Ideal S65536x5632 .f32 :=
  Host.dotGeneral dot_S65536x1024_S1024x5632_S65536x5632_1_0_0_1_n_n none x w

/-- The gated hidden layer: the left half times its sigmoid, times the right half. -/
def gated (u : FVec Ideal S65536x5632 .f32) : FVec Ideal S65536x2816 .f32 :=
  mulf (mulf (extractStridedSlice S65536x2816 ![0, 0] u slices_S65536x5632_S65536x2816_0_0) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (extractStridedSlice S65536x2816 ![0, 0] u slices_S65536x5632_S65536x2816_0_0)))))) (extractStridedSlice S65536x2816 ![0, 2816] u slices_S65536x5632_S65536x2816_0_2816)

/-- The scaled residual and the hidden layer's projection, added. -/
def preNorm (x : FVec Ideal S65536x1024 .f32) (h : FVec Ideal S65536x2816 .f32) (wo : FVec Ideal S2816x1024 .f32) : FVec Ideal S65536x1024 .f32 :=
  addf (mulf (broadcastInDim S65536x1024 ![] bcast_S_S65536x1024 (constant S_ .f32 0x3FD744FD#32)) x) (Host.dotGeneral dot_S65536x2816_S2816x1024_S65536x1024_1_0_0_1_n_n none h wo)

/-- Every row's mean. -/
def rowMean (z : FVec Ideal S65536x1024 .f32) : FVec Ideal S65536x1 .f32 :=
  Host.divf (broadcastInDim S65536x1 ![0] bcast_S65536_S65536x1_0 (Host.reduceAdd z (constant S_ .f32 0x00000000#32) reducesTo_S65536x1024_S65536_d1 h_S_)) (broadcastInDim S65536x1 ![] bcast_S_S65536x1 (constant S_ .f32 0x44800000#32))

/-- The rows less their means. -/
def centred (z : FVec Ideal S65536x1024 .f32) (μ : FVec Ideal S65536x1 .f32) : FVec Ideal S65536x1024 .f32 :=
  subf z (broadcastInDim S65536x1024 ![0, 1] bcast_S65536x1_S65536x1024_0_1 μ)

/-- The centred rows over their deviations, scaled and shifted. -/
def scaled (d : FVec Ideal S65536x1024 .f32) (v : FVec Ideal S65536x1 .f32) (w b : FVec Ideal S1024 .f32) : FVec Ideal S65536x1024 .f32 :=
  addf (mulf (mulf d (broadcastInDim S65536x1024 ![0, 1] bcast_S65536x1_S65536x1024_0_1 (Host.rsqrt (addf v (broadcastInDim S65536x1 ![] bcast_S_S65536x1 (constant S_ .f32 0x3727C5AC#32)))))) (broadcastInDim S65536x1024 ![0, 1] bcast_S1x1024_S65536x1024_0_1 (broadcastInDim S1x1024 ![1] bcast_S1024_S1x1024_1 w))) (broadcastInDim S65536x1024 ![0, 1] bcast_S1x1024_S65536x1024_0_1 (broadcastInDim S1x1024 ![1] bcast_S1024_S1x1024_1 b))

/-- The layer norm of every row. -/
def layerNorm (z : FVec Ideal S65536x1024 .f32) (w b : FVec Ideal S1024 .f32) : FVec Ideal S65536x1024 .f32 :=
  scaled (centred z (rowMean z)) (rowMean (mulf (centred z (rowMean z)) (centred z (rowMean z)))) w b

/-- The reference's first result. -/
def result (x : FVec Ideal S65536x1024 .f32) (wi : FVec Ideal S1024x5632 .f32) (wo : FVec Ideal S2816x1024 .f32) (w b : FVec Ideal S1024 .f32) :
    FVec Ideal S65536x1024 .f32 :=
  layerNorm (preNorm x (gated (inner x wi)) wo) w b

/-- The reference's second result: the first, narrowed. -/
def narrowed (y : FVec Ideal S65536x1024 .f32) : FVec Ideal S65536x1024 .bf16 := truncf .bf16 y bitsLt_bf16_f32

theorem inner_apply (x : FVec Ideal S65536x1024 .f32) (w : FVec Ideal S1024x5632 .f32) (r : Fin 65536) (j : Fin 5632) :
    inner x w (ix2 r j) = ∑ k, x (ix2 r k) * w (ix2 k j) := by
  pointwise [inner]

theorem gated_apply (u : FVec Ideal S65536x5632 .f32) (r : Fin 65536) (j : Fin 2816) (a b : Fin 5632) (ha : (a : ℕ) = j) (hb : (b : ℕ) = 2816 + j) :
    gated u (ix2 r j) = u (ix2 r a) * Ideal.div (Ideal.ofBits .f32 0x3F800000#32) (Ideal.ofBits .f32 0x3F800000#32 + Ideal.exp (-u (ix2 r a))) * u (ix2 r b) := by
  have ea : a = ⟨(j : ℕ), by clear ha hb; omega⟩ := Fin.ext ha
  have eb : b = ⟨2816 + (j : ℕ), by clear ha hb; omega⟩ := Fin.ext hb
  rw [ea, eb]
  pointwise [gated]

theorem preNorm_apply (x : FVec Ideal S65536x1024 .f32) (h : FVec Ideal S65536x2816 .f32) (wo : FVec Ideal S2816x1024 .f32) (r : Fin 65536) (d : Fin 1024) :
    preNorm x h wo (ix2 r d) = Ideal.ofBits .f32 0x3FD744FD#32 * x (ix2 r d) + ∑ k, h (ix2 r k) * wo (ix2 k d) := by
  pointwise [preNorm]

theorem rowMean_apply (z : FVec Ideal S65536x1024 .f32) (r : Fin 65536) (u : Fin 1) : rowMean z (ix2 r u) = mean (fun k => z (ix2 r k)) := by
  pointwise [rowMean, mean]

theorem centred_apply (z : FVec Ideal S65536x1024 .f32) (μ : FVec Ideal S65536x1 .f32) (r : Fin 65536) (d : Fin 1024) :
    centred z μ (ix2 r d) = z (ix2 r d) - μ (ix2 r 0) := by
  pointwise [centred]

theorem scaled_apply (d : FVec Ideal S65536x1024 .f32) (v : FVec Ideal S65536x1 .f32) (w b : FVec Ideal S1024 .f32) (r : Fin 65536) (k : Fin 1024) :
    scaled d v w b (ix2 r k) = d (ix2 r k) * Ideal.rsqrt (v (ix2 r 0) + Ideal.ofBits .f32 0x3727C5AC#32) * w (ix1 k) + b (ix1 k) := by
  pointwise [scaled]

/-- A product of arrays at an index. -/
theorem mul_at (a b : FVec Ideal S65536x1024 .f32) (i : S65536x1024.Idx) : mulf a b i = a i * b i := rfl

/-- The layer norm at an index is the row's. -/
theorem layerNorm_apply (z : FVec Ideal S65536x1024 .f32) (w b : FVec Ideal S1024 .f32) (r : Fin 65536) (d : Fin 1024) :
    layerNorm z w b (ix2 r d) = lnRow (fun k => z (ix2 r k)) (fun k => w (ix1 k)) (fun k => b (ix1 k)) d := by
  simp only [layerNorm, scaled_apply, centred_apply, rowMean_apply, lnRow, mul_at]

theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v33) = narrowed (result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :=
  (θ_run defs _ _).mono (fun _ h c => ⟨(h c).1.trans (by unfold result layerNorm scaled centred rowMean preNorm gated inner; rfl),
    (h c).2.1.trans (by unfold narrowed result layerNorm scaled centred rowMean preNorm gated inner; rfl)⟩) (Cert.FfnRefIdeal.Value.run (F := Ideal) m ρ)

end Cert.FfnRefIdeal.Hand
-- ==== Proof.Ffn.Block.lean ====
module

public import proofs.«01_k».proof.Proof.Gen.FfnIdeal.Skeleton
public import proofs.«01_k».proof.Proof.Gen.FfnIdeal.Frame
public import proofs.«01_k».proof.Proof.Ffn.Ref
public import Idealize.ShloMosaic.Lib.Pipeline.ValueKit

@[expose] public section

set_option maxRecDepth 16384

noncomputable section

namespace Cert.FfnIdeal.Hand

open Idealize.ShloMosaic Idealize.ShloMosaic.TcCoe Idealize.SL.Sem
open Idealize.ShloMosaic.Pipeline (Dat)
open Cert.FfnIdeal Cert.FfnIdeal.Gen
open Cert.Norm

variable (m : (ℓ : Loc nD τ sig) → Buf (Elt Ideal) ℓ)

/-- A value times its sigmoid, times another. -/
def gate (a b : EReal) : EReal := a * Ideal.div 1 (1 + Ideal.exp (0 - a)) * b

/-- The hidden layer of a block of rows. -/
def hidden (x : FVec Ideal S1024x1024 .bf16) (wa wb : FVec Ideal S1024x2816 .bf16) : FVec Ideal S1024x2816 .bf16 :=
  fun y => gate (∑ k, x (ix2 (y 0) k) * wa (ix2 k (y 1))) (∑ k, x (ix2 (y 0) k) * wb (ix2 k (y 1)))

/-- A row before its norm: the scaled residual and the hidden row's projection. -/
def preRow (x : Fin 1024 → EReal) (h : Fin 2816 → EReal) (wo : FVec Ideal S2816x1024 .bf16) (d : Fin 1024) : EReal :=
  Ideal.ofBits .f32 0x3FD744FD#32 * x d + ∑ k, h k * wo (ix2 k d)

/-- What a point's body leaves in its block of results. -/
def blockOut (x : FVec Ideal S1024x1024 .f32) (h : FVec Ideal S1024x2816 .bf16) (wo : FVec Ideal S2816x1024 .bf16)
    (w b : FVec Ideal S1x1024 .f32) (y : S1024x1024.Idx) : EReal :=
  lnRow (preRow (fun k => x (ix2 (y 0) k)) (fun k => h (ix2 (y 0) k)) wo) (fun k => w (ix2 0 k)) (fun k => b (ix2 0 k)) (y 1)

/-- A load through a rectangle of what the stores left reads their contents through it. -/
theorem readCov_ld {sig : RefSig} {κ : Kind} {sp : Space} {s : Shape} {e : EltTy} (v : View sig κ sp s e) (L : List (View.Piece (Elt Ideal) s e))
    (B : Rect s) : v.readCov L B.toLoadRect = View.ld (View.canon L) B :=
  View.readCov_eq_canon' v L B.toLoadRect

/-- The contents the stores left are a function that every element agrees with. -/
theorem canon_ext {s : Shape} {e : EltTy} (L : List (View.Piece (Elt Ideal) s e)) (G : s.Idx → Elt Ideal e) (h : ∀ j, View.canon L j = G j) :
    View.canon L = G := funext h

/-- The windows' block indices at point `t`: the rows' windows step with the point, the others stay. -/
theorem idx_val : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![t.val, 0] ∧ win0_8.index t = ![t.val, 0] :=
  (by decide +kernel : ∀ t : Fin grid0.N, _)

/-- An element of the rows' block. -/
theorem xblock_at (c : Dev nD) (t : Fin cfg0.N) (r k : Fin 1024) (z : Fin 65536) (hz : (z : ℕ) = t.val * 1024 + r) :
    iblk m c 0 t (ix2 r k) = m ((c.tc : Thread nD τ).loc main_arg0) (ix2 z k) := by
  blk_simp [iblk, idx_val t]
  entry_read
  pointwise
  blk_point [idx_val t]

/-- An element of the rows' narrowed block. -/
theorem xbits_at (c : Dev nD) (t : Fin cfg0.N) (r k : Fin 1024) (z : Fin 65536) (hz : (z : ℕ) = t.val * 1024 + r) :
    iblk m c 1 t (ix2 r k) = m ((c.tc : Thread nD τ).loc main_arg0) (ix2 z k) := by
  blk_simp [iblk, idx_val t]
  entry_read
  pointwise
  blk_point [idx_val t]

/-- An element of the input matrix's left half. -/
theorem left_at (c : Dev nD) (t : Fin cfg0.N) (k : Fin 1024) (j : Fin 2816) (l : Fin 5632) (hl : (l : ℕ) = j) :
    iblk m c 2 t (ix2 k j) = m ((c.tc : Thread nD τ).loc main_arg1) (ix2 k l) := by
  blk_simp [iblk, idx_val t]
  entry_read
  pointwise
  blk_point [idx_val t]

/-- An element of the input matrix's right half. -/
theorem right_at (c : Dev nD) (t : Fin cfg0.N) (k : Fin 1024) (j : Fin 2816) (l : Fin 5632) (hl : (l : ℕ) = 2816 + j) :
    iblk m c 3 t (ix2 k j) = m ((c.tc : Thread nD τ).loc main_arg1) (ix2 k l) := by
  blk_simp [iblk, idx_val t]
  entry_read
  pointwise
  blk_point [idx_val t]

/-- An element of the output matrix. -/
theorem out_at (c : Dev nD) (t : Fin cfg0.N) (j : Fin 2816) (d : Fin 1024) :
    iblk m c 4 t (ix2 j d) = m ((c.tc : Thread nD τ).loc main_arg2) (ix2 j d) := by
  blk_simp [iblk, idx_val t]
  entry_read
  pointwise
  blk_point [idx_val t]

/-- An element of the norm's weights. -/
theorem weight_at (c : Dev nD) (t : Fin cfg0.N) (d : Fin 1024) :
    iblk m c 5 t (ix2 0 d) = m ((c.tc : Thread nD τ).loc main_arg3) (ix1 d) := by
  blk_simp [iblk, idx_val t]
  entry_read
  pointwise
  blk_point [idx_val t]

/-- An element of the norm's biases. -/
theorem bias_at (c : Dev nD) (t : Fin cfg0.N) (d : Fin 1024) :
    iblk m c 6 t (ix2 0 d) = m ((c.tc : Thread nD τ).loc main_arg4) (ix1 d) := by
  blk_simp [iblk, idx_val t]
  entry_read
  pointwise
  blk_point [idx_val t]

/-- An element of the hidden layer is the reference's. -/
theorem hidden_at (c : Dev nD) (t : Fin cfg0.N) (q : Fin 1024) (r : Fin 65536) (hr : (r : ℕ) = t.val * 1024 + q) (j : Fin 2816) :
    hidden (iblk m c 1 t) (iblk m c 2 t) (iblk m c 3 t) (ix2 q j)
      = Cert.FfnRefIdeal.Hand.gated (Cert.FfnRefIdeal.Hand.inner (m ((c.tc : Thread nD τ).loc main_arg0)) (m ((c.tc : Thread nD τ).loc main_arg1))) (ix2 r j) := by
  have one : Ideal.ofBits .f32 0x3F800000#32 = 1 := by pointwise
  rw [Cert.FfnRefIdeal.Hand.gated_apply _ r j ⟨j, by omega⟩ ⟨2816 + j, by omega⟩ rfl rfl,
    Cert.FfnRefIdeal.Hand.inner_apply, Cert.FfnRefIdeal.Hand.inner_apply, one, ← zero_sub]
  refine congrArg₂ gate (Finset.sum_congr rfl fun k _ => ?_) (Finset.sum_congr rfl fun k _ => ?_)
  · exact congrArg₂ (fun a b : EReal => a * b) (xbits_at m c t q k r hr) (left_at m c t k j _ rfl)
  · exact congrArg₂ (fun a b : EReal => a * b) (xbits_at m c t q k r hr) (right_at m c t k j _ rfl)

/-- An element of the row before its norm is the reference's. -/
theorem preRow_at (c : Dev nD) (t : Fin cfg0.N) (q : Fin 1024) (r : Fin 65536) (hr : (r : ℕ) = t.val * 1024 + q) (d : Fin 1024) :
    preRow (fun k => iblk m c 0 t (ix2 q k)) (fun k => (hidden (iblk m c 1 t) (iblk m c 2 t) (iblk m c 3 t)) (ix2 q k)) (iblk m c 4 t) d
      = Cert.FfnRefIdeal.Hand.preNorm (m ((c.tc : Thread nD τ).loc main_arg0)) (Cert.FfnRefIdeal.Hand.gated (Cert.FfnRefIdeal.Hand.inner (m ((c.tc : Thread nD τ).loc main_arg0)) (m ((c.tc : Thread nD τ).loc main_arg1)))) (m ((c.tc : Thread nD τ).loc main_arg2)) (ix2 r d) := by
  rw [Cert.FfnRefIdeal.Hand.preNorm_apply]
  refine congrArg₂ (fun a b : EReal => Ideal.ofBits .f32 0x3FD744FD#32 * a + b) (xblock_at m c t q d r hr) (Finset.sum_congr rfl fun k _ => ?_)
  exact congrArg₂ (fun a b : EReal => a * b) (hidden_at m c t q r hr k) (out_at m c t k d)

/-- An element of the row's norm is the reference's. -/
theorem row_at (c : Dev nD) (t : Fin cfg0.N) (q : Fin 1024) (r : Fin 65536) (hr : (r : ℕ) = t.val * 1024 + q) (d : Fin 1024) :
    lnRow (preRow (fun k => iblk m c 0 t (ix2 q k)) (fun k => (hidden (iblk m c 1 t) (iblk m c 2 t) (iblk m c 3 t)) (ix2 q k)) (iblk m c 4 t)) (fun k => iblk m c 5 t (ix2 0 k))
        (fun k => iblk m c 6 t (ix2 0 k)) d
      = Cert.FfnRefIdeal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 r d) := by
  rw [Cert.FfnRefIdeal.Hand.result, Cert.FfnRefIdeal.Hand.layerNorm_apply, funext (preRow_at m c t q r hr), funext (weight_at m c t),
    funext (bias_at m c t)]

/-- What the body leaves at block index `y` of point `t` is the reference at the array index `y` sits at. -/
theorem point (c : Dev nD) (t : Fin cfg0.N) (y : S1024x1024.Idx) (z : Cert.FfnRefIdeal.S65536x1024.Idx)
    (h0 : (z 0 : ℕ) = t.val * 1024 + y 0) (h1 : (z 1 : ℕ) = y 1) :
    blockOut (iblk m c 0 t) (hidden (iblk m c 1 t) (iblk m c 2 t) (iblk m c 3 t)) (iblk m c 4 t) (iblk m c 5 t) (iblk m c 6 t) y
      = Cert.FfnRefIdeal.Hand.result (m ((c : Thread nD τ).loc main_arg0)) (m ((c : Thread nD τ).loc main_arg1)) (m ((c : Thread nD τ).loc main_arg2)) (m ((c : Thread nD τ).loc main_arg3)) (m ((c : Thread nD τ).loc main_arg4)) z := by
  have ez : z = ix2 (z 0 : Fin 65536) (y 1 : Fin 1024) := (eq_ix2 z).trans (congrArg (ix2 (z 0 : Fin 65536)) (Fin.ext h1))
  exact (row_at m c t (y 0) (z 0) h0 (y 1)).trans (congrArg _ ez.symm)

/-- The first result array after the run is the reference's. -/
theorem final7 (c : Dev nD) : (dats m 0 c).arrAt 7 (cfgs 0).N
    = Cert.FfnRefIdeal.Hand.result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after0_7]; unfold outsAt0; frame_out
  refine Eq.trans (b := blockOut (iblk m c 0 t) (hidden (iblk m c 1 t) (iblk m c 2 t) (iblk m c 3 t)) (iblk m c 4 t) (iblk m c 5 t) (iblk m c 6 t) y) ?_ (point m c t y _ ?_ ?_)
  · generalize iblk m c 0 t = x0
    generalize iblk m c 1 t = x1
    generalize iblk m c 2 t = x2
    generalize iblk m c 3 t = x3
    generalize iblk m c 4 t = x4
    generalize iblk m c 5 t = x5
    generalize iblk m c 6 t = x6
    simp only [readCov_ld]
    rw [canon_ext (s := S1024x2816) _ (hidden x1 x2 x3)]
    · canon_tiles x e
      all_goals
        open_payloads
        pointwise [blockOut, lnRow, mean, preRow]
        blk_point []
    · intro j
      canon_tiles x e
      all_goals
        open_payloads
        pointwise [hidden, gate]
        blk_point []
  all_goals (blk_simp [idx_val t] <;> try omega)

/-- The second result array after the run is the reference's. -/
theorem final8 (c : Dev nD) : (dats m 0 c).arrAt 8 (cfgs 0).N
    = Cert.FfnRefIdeal.Hand.narrowed (Cert.FfnRefIdeal.Hand.result (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 8 _ (by decide +kernel) fun t hf y => ?_
  blk_simp; rw [after0_8]; unfold outsAt0; frame_out
  refine Eq.trans (b := blockOut (iblk m c 0 t) (hidden (iblk m c 1 t) (iblk m c 2 t) (iblk m c 3 t)) (iblk m c 4 t) (iblk m c 5 t) (iblk m c 6 t) y) ?_ (point m c t y _ ?_ ?_)
  · generalize iblk m c 0 t = x0
    generalize iblk m c 1 t = x1
    generalize iblk m c 2 t = x2
    generalize iblk m c 3 t = x3
    generalize iblk m c 4 t = x4
    generalize iblk m c 5 t = x5
    generalize iblk m c 6 t = x6
    simp only [readCov_ld]
    rw [canon_ext (s := S1024x2816) _ (hidden x1 x2 x3)]
    · canon_tiles x e
      all_goals
        open_payloads
        pointwise [blockOut, lnRow, mean, preRow]
        blk_point []
    · intro j
      canon_tiles x e
      all_goals
        open_payloads
        pointwise [hidden, gate]
        blk_point []
  all_goals (blk_simp [idx_val t] <;> try omega)

end Cert.FfnIdeal.Hand

end
-- ==== Proof.FfnClaim.lean ====
module

public import proofs.«01_k».proof.Defs
public import proofs.«01_k».proof.Proof.Gen.FfnIdeal.Value
public import proofs.«01_k».proof.Proof.Ffn.Block
public import Idealize.ShloMosaic.Lib.Quiescent

@[expose] public section

noncomputable section

namespace Cert.Proof

open Idealize.ShloMosaic Idealize.SL Idealize.SL.Sem

/-- The reference of the feed-forward part leaves its arguments alone and every counter at zero. -/
theorem ffnRef_frame : Cert.quiescent_FfnRefIdeal := fun m ρ _ =>
  (θ_run _ _ _).mono (fun r h => ⟨fun c => (h c).2.2, Idealize.ShloMosaic.sem_eq_zero_of_no_sems (by decide) r.2⟩)
    (Cert.FfnRefIdeal.Value.run (F := Ideal) m ρ)

/-- The feed-forward part: kernel and reference leave the same two arrays. -/
theorem ffn_algebraic : Cert.algebraic_FfnIdeal_FfnRefIdeal := by
  intro m ρ m' ρ' _ hagree
  refine ⟨_, _, Cert.FfnIdeal.Value.run_blocks m ρ, (θ_run _ _ _).mono (fun _ h c => ⟨(h.1 c).1.trans ?_, (h.1 c).2.trans ?_, (h.2 c).2.2⟩)
    (θ_run_and (Cert.FfnRefIdeal.Hand.run_at m' ρ') (Cert.FfnRefIdeal.Value.run (F := Ideal) m' ρ'))⟩
  · rw [Cert.FfnIdeal.Hand.final7 m c, (hagree c).1, (hagree c).2.1, (hagree c).2.2.1, (hagree c).2.2.2.1, (hagree c).2.2.2.2]
  · rw [Cert.FfnIdeal.Hand.final8 m c, (hagree c).1, (hagree c).2.1, (hagree c).2.2.1, (hagree c).2.2.2.1, (hagree c).2.2.2.2]

end Cert.Proof

end
-- ==== Proof.KvValue.lean ====
module

public import proofs.«01_k».proof.Proof.Gen.KvIdeal.Skeleton
public import proofs.«01_k».proof.Proof.Gen.KvIdeal.Frame
public import proofs.«01_k».proof.Proof.Gen.KvRefIdeal
public import Idealize.ShloMosaic.Lib.Pipeline.ValueKit

@[expose] public section

set_option maxRecDepth 16384

noncomputable section

namespace Cert.KvIdeal.Hand

open Idealize.ShloMosaic Idealize.ShloMosaic.TcCoe Idealize.SL.Sem
open Idealize.ShloMosaic.Pipeline (Dat)
open Cert.KvIdeal Cert.KvIdeal.Gen

variable (m : (ℓ : Loc nD τ sig) → Buf (Elt Ideal) ℓ)

/-- The reference: every row of the retrieved text projected to its keys and values. -/
def projected (x : FVec Ideal Cert.KvRefIdeal.S32x256x1024 .f32) (w : FVec Ideal Cert.KvRefIdeal.S1024x2048 .f32) :
    FVec Ideal Cert.KvRefIdeal.S8192x2048 .bf16 :=
  truncf .bf16 (shapeCast Cert.KvRefIdeal.S8192x2048 (Host.dotGeneral Cert.KvRefIdeal.dot_S32x256x1024_S1024x2048_S32x256x2048_2_0_01_1_n_n none x w)
    Cert.KvRefIdeal.Gen.shapeCasts_S32x256x2048_S8192x2048) Cert.KvRefIdeal.Gen.bitsLt_bf16_f32

/-- The windows' block indices at point `t`: row block `t % 8`, column block `t / 8`. -/
theorem idx_val : ∀ t : Fin cfg0.N, win0_0.index t = ![t.val % 8, 0]
    ∧ win0_1.index t = ![0, t.val / 8]
    ∧ win0_2.index t = ![t.val % 8, t.val / 8] :=
  (by decide +kernel : ∀ t : Fin grid0.N, _)

/-- The reference at an index, its row given by document and position. -/
theorem projected_apply (x : FVec Ideal Cert.KvRefIdeal.S32x256x1024 .f32) (w : FVec Ideal Cert.KvRefIdeal.S1024x2048 .f32)
    (z : Cert.KvRefIdeal.S8192x2048.Idx) (d : Fin 32) (p : Fin 256) (hd : (d : ℕ) = (z 0 : ℕ) / 256) (hp : (p : ℕ) = (z 0 : ℕ) % 256) :
    projected x w z = ∑ k, x (ix3 d p k) * w (ix2 k (z 1)) := by
  have ed : d = ⟨(z 0 : ℕ) / 256, by omega⟩ := Fin.ext hd
  have ep : p = ⟨(z 0 : ℕ) % 256, by omega⟩ := Fin.ext hp
  rw [ed, ep]
  pointwise [projected]

/-- What the body stores: the contraction of a row of the one block with a column of the other. -/
theorem pay_apply (x : FVec Ideal S1024x1024 .bf16) (w : FVec Ideal S1024x1024 .bf16) (y : S1024x1024.Idx) :
    k0_pay1 (F := Ideal) x w y = ∑ k, x (ix2 (y 0) k) * w (ix2 k (y 1)) := by
  pointwise [k0_pay1]

/-- An element of the text's block. -/
theorem xblock_at (c : Dev nD) (t : Fin cfg0.N) (r k : Fin 1024) (d : Fin 32) (p : Fin 256) (hd : (d : ℕ) = (t.val % 8 * 1024 + r) / 256)
    (hp : (p : ℕ) = (t.val % 8 * 1024 + r) % 256) :
    iblk m c 0 t (ix2 r k) = m ((c.tc : Thread nD τ).loc main_arg0) (ix3 d p k) := by
  blk_simp [iblk, idx_val t]
  entry_read
  pointwise
  blk_point [idx_val t]

/-- An element of the matrix's block. -/
theorem wblock_at (c : Dev nD) (t : Fin cfg0.N) (k r : Fin 1024) (l : Fin 2048) (hl : (l : ℕ) = t.val / 8 * 1024 + r) :
    iblk m c 1 t (ix2 k r) = m ((c.tc : Thread nD τ).loc main_arg1) (ix2 k l) := by
  blk_simp [iblk, idx_val t]
  entry_read
  pointwise
  blk_point [idx_val t]

/-- What the body stores at block index `y` of point `t` is the reference at the array index `y` sits at. -/
theorem point (c : Dev nD) (t : Fin cfg0.N) (y : S1024x1024.Idx) (z : Cert.KvRefIdeal.S8192x2048.Idx)
    (h0 : (z 0 : ℕ) = t.val % 8 * 1024 + y 0) (h1 : (z 1 : ℕ) = t.val / 8 * 1024 + y 1) :
    k0_pay1 (iblk m c 0 t) (iblk m c 1 t) y
      = projected (m ((c : Thread nD τ).loc main_arg0)) (m ((c : Thread nD τ).loc main_arg1)) z := by
  have hz : (z 0 : ℕ) < 8192 := (z 0).isLt
  rw [pay_apply, projected_apply _ _ z ⟨(z 0 : ℕ) / 256, by omega⟩ ⟨(z 0 : ℕ) % 256, by omega⟩ rfl rfl]
  refine Finset.sum_congr rfl fun k _ => ?_
  rw [xblock_at m c t (y 0) k ⟨(z 0 : ℕ) / 256, by omega⟩ ⟨(z 0 : ℕ) % 256, by omega⟩ (by rw [← h0]) (by rw [← h0]),
    wblock_at m c t k (y 1) (z 1) h1]

/-- The result array after the run is the reference's. -/
theorem final (c : Dev nD) : (dats m 0 c).arrAt 2 (cfgs 0).N
    = projected (m ((c : Thread nD τ).loc main_arg0)) (m ((c : Thread nD τ).loc main_arg1)) := by
  refine (dats m 0 c).arrAt_eq_of_covers 2 _ (by decide +kernel) fun t hf y => ?_
  blk_simp; rw [after0_2]; frame_out
  refine point m c t y _ ?_ ?_
  all_goals (blk_simp [idx_val t] <;> try omega)

end Cert.KvIdeal.Hand

end
-- ==== Proof.KvClaim.lean ====
module

public import proofs.«01_k».proof.Defs
public import proofs.«01_k».proof.Proof.Gen.Kv.Frame
public import proofs.«01_k».proof.Proof.Gen.KvIdeal.Value
public import proofs.«01_k».proof.Proof.Gen.KvRefIdeal.Run
public import proofs.«01_k».proof.Proof.KvValue
public import Idealize.ShloMosaic.Lib.Quiescent

@[expose] public section

noncomputable section

namespace Cert.Proof

open Idealize.ShloMosaic Idealize.SL Idealize.SL.Sem

/-- The reference of the text's projection leaves its arguments alone and every counter at zero. -/
theorem kvRef_frame : Cert.quiescent_KvRefIdeal := fun m ρ _ =>
  (θ_run _ _ _).mono (fun r h => ⟨fun c => (h c).2, Idealize.ShloMosaic.sem_eq_zero_of_no_sems (by decide) r.2⟩)
    (Cert.KvRefIdeal.Value.run (F := Ideal) m ρ)

/-- The projection of the retrieved text: kernel and reference leave the same array. -/
theorem kv_algebraic : Cert.algebraic_KvIdeal_KvRefIdeal := by
  intro m ρ m' ρ' _ hagree
  refine ⟨_, Cert.KvIdeal.Value.run_blocks m ρ, (θ_run _ _ _).mono (fun _ h c => ⟨(h c).1.trans ?_, (h c).2⟩)
    (Cert.KvRefIdeal.Value.run (F := Ideal) m' ρ')⟩
  rw [Cert.KvIdeal.Hand.final m c, (hagree c).1, (hagree c).2]
  rfl

end Cert.Proof

end
-- ==== Proof.Merge.Ref.lean ====
module

public import proofs.«01_k».proof.Proof.Gen.MergeRefIdeal.Run
public import proofs.«01_k».proof.Proof.Ffn.Ref
public import Idealize.ShloMosaic.Lib.Pipeline.ValueKit

@[expose] public section

set_option maxRecDepth 16384

noncomputable section

namespace Cert.MergeRefIdeal.Hand

open Cert.MergeRefIdeal Cert.MergeRefIdeal.Gen
open Idealize.ShloMosaic Idealize.ShloMosaic.TcCoe Idealize.ShloMosaic.Tactic
open Idealize.SL Idealize.SL.Sem
open Idealize.ShloMosaic.ValueKit
open Cert.Norm
open Cert.FfnRefIdeal.Hand (layerNorm layerNorm_apply narrowed scaled centred rowMean)

/-- Every row times a square matrix. -/
def times (x : FVec Ideal S65536x1024 .f32) (w : FVec Ideal S1024x1024 .f32) : FVec Ideal S65536x1024 .f32 :=
  Host.dotGeneral dot_S65536x1024_S1024x1024_S65536x1024_1_0_0_1_n_n none x w

/-- The three branches' gates, one after another. -/
def gates (g : FVec Ideal S65536x3072 .f32) : FVec Ideal S65536x3x1024 .f32 :=
  shapeCast S65536x3x1024 g shapeCasts_S65536x3072_S65536x3x1024

/-- The branches' projections, gated and added. -/
def merged (g : FVec Ideal S65536x3x1024 .f32) (a b c : FVec Ideal S65536x1024 .f32) : FVec Ideal S65536x1024 .f32 :=
  addf (addf (mulf (shapeCast S65536x1024 (extractStridedSlice S65536x1x1024 ![0, 0, 0] g slices_S65536x3x1024_S65536x1x1024_0_0_0) shapeCasts_S65536x1x1024_S65536x1024) a)
    (mulf (shapeCast S65536x1024 (extractStridedSlice S65536x1x1024 ![0, 1, 0] g slices_S65536x3x1024_S65536x1x1024_0_1_0) shapeCasts_S65536x1x1024_S65536x1024) b))
    (mulf (shapeCast S65536x1024 (extractStridedSlice S65536x1x1024 ![0, 2, 0] g slices_S65536x3x1024_S65536x1x1024_0_2_0) shapeCasts_S65536x1x1024_S65536x1024) c)

/-- The scaled residual and the projected branches, added. -/
def preNorm (x y : FVec Ideal S65536x1024 .f32) : FVec Ideal S65536x1024 .f32 :=
  addf (mulf (broadcastInDim S65536x1024 ![] bcast_S_S65536x1024 (constant S_ .f32 0x3FD744FD#32)) x) y

/-- The reference's first result. -/
def result (ro rgs sg att : FVec Ideal S65536x1024 .f32) (g : FVec Ideal S65536x3072 .f32) (x : FVec Ideal S65536x1024 .f32)
    (w1 w2 w3 wo : FVec Ideal S1024x1024 .f32) (w b : FVec Ideal S1024 .f32) : FVec Ideal S65536x1024 .f32 :=
  layerNorm (preNorm x (times (merged (gates g) (times (mulf rgs ro) w1) (times sg w2) (times att w3)) wo)) w b

theorem times_apply (x : FVec Ideal S65536x1024 .f32) (w : FVec Ideal S1024x1024 .f32) (r : Fin 65536) (d : Fin 1024) :
    times x w (ix2 r d) = ∑ k, x (ix2 r k) * w (ix2 k d) := by
  pointwise [times]

theorem gates_apply (g : FVec Ideal S65536x3072 .f32) (r : Fin 65536) (e : Fin 3) (d : Fin 1024) (l : Fin 3072) (hl : (l : ℕ) = e * 1024 + d) :
    gates g (ix3 r e d) = g (ix2 r l) := by
  have el : l = ⟨(e : ℕ) * 1024 + (d : ℕ), by clear hl; omega⟩ := Fin.ext hl
  rw [el]
  pointwise [gates]

theorem merged_apply (g : FVec Ideal S65536x3x1024 .f32) (a b c : FVec Ideal S65536x1024 .f32) (r : Fin 65536) (d : Fin 1024) :
    merged g a b c (ix2 r d) = g (ix3 r 0 d) * a (ix2 r d) + g (ix3 r 1 d) * b (ix2 r d) + g (ix3 r 2 d) * c (ix2 r d) := by
  pointwise [merged]

theorem preNorm_apply (x y : FVec Ideal S65536x1024 .f32) (r : Fin 65536) (d : Fin 1024) :
    preNorm x y (ix2 r d) = Ideal.ofBits .f32 0x3FD744FD#32 * x (ix2 r d) + y (ix2 r d) := by
  pointwise [preNorm]

theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v44) = narrowed (result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :=
  (θ_run defs _ _).mono (fun _ h c => ⟨(h c).1.trans (by unfold result layerNorm scaled centred rowMean preNorm merged gates times; rfl),
    (h c).2.1.trans (by unfold narrowed result layerNorm scaled centred rowMean preNorm merged gates times; rfl)⟩) (Cert.MergeRefIdeal.Value.run (F := Ideal) m ρ)

end Cert.MergeRefIdeal.Hand

end
-- ==== Proof.Merge.Block.lean ====
module

public import proofs.«01_k».proof.Proof.Gen.MergeIdeal.Skeleton
public import proofs.«01_k».proof.Proof.Gen.MergeIdeal.Frame
public import proofs.«01_k».proof.Proof.Merge.Ref
public import Idealize.ShloMosaic.Lib.Pipeline.ValueKit

@[expose] public section

set_option maxRecDepth 16384

noncomputable section

namespace Cert.MergeIdeal.Hand

open Idealize.ShloMosaic Idealize.ShloMosaic.TcCoe Idealize.SL.Sem
open Idealize.ShloMosaic.Pipeline (Dat)
open Cert.MergeIdeal Cert.MergeIdeal.Gen
open Cert.Norm

variable (m : (ℓ : Loc nD τ sig) → Buf (Elt Ideal) ℓ)

/-- The branches of a block of rows, projected, gated and added. -/
def mixed (ro rgs sg att : FVec Ideal S512x1024 .bf16) (g : FVec Ideal S512x3072 .bf16) (w1 w2 w3 : FVec Ideal S1024x1024 .bf16) :
    FVec Ideal S512x1024 .bf16 :=
  fun y => g (ix2 (y 0) ⟨(y 1 : ℕ), by have : (y 1 : ℕ) < 1024 := (y 1).isLt; omega⟩) * (∑ k, ro (ix2 (y 0) k) * rgs (ix2 (y 0) k) * w1 (ix2 k (y 1)))
    + g (ix2 (y 0) ⟨1024 + (y 1 : ℕ), by have : (y 1 : ℕ) < 1024 := (y 1).isLt; omega⟩) * (∑ k, sg (ix2 (y 0) k) * w2 (ix2 k (y 1)))
    + g (ix2 (y 0) ⟨2048 + (y 1 : ℕ), by have : (y 1 : ℕ) < 1024 := (y 1).isLt; omega⟩) * (∑ k, att (ix2 (y 0) k) * w3 (ix2 k (y 1)))

/-- A row before its norm: the scaled residual and the mixed row's projection. -/
def preRow (x h : Fin 1024 → EReal) (wo : FVec Ideal S1024x1024 .bf16) (d : Fin 1024) : EReal :=
  Ideal.ofBits .f32 0x3FD744FD#32 * x d + ∑ k, h k * wo (ix2 k d)

/-- What a point's body leaves in its block of results. -/
def blockOut (x : FVec Ideal S512x1024 .f32) (h : FVec Ideal S512x1024 .bf16) (wo : FVec Ideal S1024x1024 .bf16)
    (w b : FVec Ideal S1x1024 .f32) (y : S512x1024.Idx) : EReal :=
  lnRow (preRow (fun k => x (ix2 (y 0) k)) (fun k => h (ix2 (y 0) k)) wo) (fun k => w (ix2 0 k)) (fun k => b (ix2 0 k)) (y 1)

/-- The windows' block indices at point `t`: the rows' windows step with the point, the others stay. -/
theorem idx_val : ∀ t : Fin cfg0.N, win0_0.index t = ![t.val, 0] ∧ win0_1.index t = ![t.val, 0]
    ∧ win0_2.index t = ![t.val, 0] ∧ win0_3.index t = ![t.val, 0] ∧ win0_4.index t = ![t.val, 0] ∧ win0_5.index t = ![t.val, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![t.val, 0] ∧ win0_13.index t = ![t.val, 0] :=
  (by decide +kernel : ∀ t : Fin grid0.N, _)

/-- An element of the retention's block. -/
theorem ro_at (c : Dev nD) (t : Fin cfg0.N) (q : Fin 512) (k : Fin 1024) (r : Fin 65536) (hr : (r : ℕ) = t.val * 512 + q) :
    iblk m c 0 t (ix2 q k) = m ((c.tc : Thread nD τ).loc main_arg0) (ix2 r k) := by
  blk_simp [iblk, idx_val t]
  entry_read
  pointwise
  blk_point [idx_val t]

/-- An element of the retention's gate's block. -/
theorem rgs_at (c : Dev nD) (t : Fin cfg0.N) (q : Fin 512) (k : Fin 1024) (r : Fin 65536) (hr : (r : ℕ) = t.val * 512 + q) :
    iblk m c 1 t (ix2 q k) = m ((c.tc : Thread nD τ).loc main_arg1) (ix2 r k) := by
  blk_simp [iblk, idx_val t]
  entry_read
  pointwise
  blk_point [idx_val t]

/-- An element of the second branch's block. -/
theorem sg_at (c : Dev nD) (t : Fin cfg0.N) (q : Fin 512) (k : Fin 1024) (r : Fin 65536) (hr : (r : ℕ) = t.val * 512 + q) :
    iblk m c 2 t (ix2 q k) = m ((c.tc : Thread nD τ).loc main_arg2) (ix2 r k) := by
  blk_simp [iblk, idx_val t]
  entry_read
  pointwise
  blk_point [idx_val t]

/-- An element of the third branch's block. -/
theorem att_at (c : Dev nD) (t : Fin cfg0.N) (q : Fin 512) (k : Fin 1024) (r : Fin 65536) (hr : (r : ℕ) = t.val * 512 + q) :
    iblk m c 3 t (ix2 q k) = m ((c.tc : Thread nD τ).loc main_arg3) (ix2 r k) := by
  blk_simp [iblk, idx_val t]
  entry_read
  pointwise
  blk_point [idx_val t]

/-- An element of the gates' block. -/
theorem gates_at (c : Dev nD) (t : Fin cfg0.N) (q : Fin 512) (l : Fin 3072) (r : Fin 65536) (hr : (r : ℕ) = t.val * 512 + q) :
    iblk m c 4 t (ix2 q l) = m ((c.tc : Thread nD τ).loc main_arg4) (ix2 r l) := by
  blk_simp [iblk, idx_val t]
  entry_read
  pointwise
  blk_point [idx_val t]

/-- An element of the rows' block. -/
theorem x_at (c : Dev nD) (t : Fin cfg0.N) (q : Fin 512) (k : Fin 1024) (r : Fin 65536) (hr : (r : ℕ) = t.val * 512 + q) :
    iblk m c 5 t (ix2 q k) = m ((c.tc : Thread nD τ).loc main_arg5) (ix2 r k) := by
  blk_simp [iblk, idx_val t]
  entry_read
  pointwise
  blk_point [idx_val t]

/-- An element of the first branch's matrix. -/
theorem w1_at (c : Dev nD) (t : Fin cfg0.N) (k d : Fin 1024) :
    iblk m c 6 t (ix2 k d) = m ((c.tc : Thread nD τ).loc main_arg6) (ix2 k d) := by
  blk_simp [iblk, idx_val t]
  entry_read
  pointwise
  blk_point [idx_val t]

/-- An element of the second branch's matrix. -/
theorem w2_at (c : Dev nD) (t : Fin cfg0.N) (k d : Fin 1024) :
    iblk m c 7 t (ix2 k d) = m ((c.tc : Thread nD τ).loc main_arg7) (ix2 k d) := by
  blk_simp [iblk, idx_val t]
  entry_read
  pointwise
  blk_point [idx_val t]

/-- An element of the third branch's matrix. -/
theorem w3_at (c : Dev nD) (t : Fin cfg0.N) (k d : Fin 1024) :
    iblk m c 8 t (ix2 k d) = m ((c.tc : Thread nD τ).loc main_arg8) (ix2 k d) := by
  blk_simp [iblk, idx_val t]
  entry_read
  pointwise
  blk_point [idx_val t]

/-- An element of the output matrix. -/
theorem wo_at (c : Dev nD) (t : Fin cfg0.N) (k d : Fin 1024) :
    iblk m c 9 t (ix2 k d) = m ((c.tc : Thread nD τ).loc main_arg9) (ix2 k d) := by
  blk_simp [iblk, idx_val t]
  entry_read
  pointwise
  blk_point [idx_val t]

/-- An element of the norm's weights. -/
theorem weight_at (c : Dev nD) (t : Fin cfg0.N) (d : Fin 1024) :
    iblk m c 10 t (ix2 0 d) = m ((c.tc : Thread nD τ).loc main_arg10) (ix1 d) := by
  blk_simp [iblk, idx_val t]
  entry_read
  pointwise
  blk_point [idx_val t]

/-- An element of the norm's biases. -/
theorem bias_at (c : Dev nD) (t : Fin cfg0.N) (d : Fin 1024) :
    iblk m c 11 t (ix2 0 d) = m ((c.tc : Thread nD τ).loc main_arg11) (ix1 d) := by
  blk_simp [iblk, idx_val t]
  entry_read
  pointwise
  blk_point [idx_val t]

/-- An element of the mixed branches is the reference's. -/
theorem mixed_at (c : Dev nD) (t : Fin cfg0.N) (q : Fin 512) (r : Fin 65536) (hr : (r : ℕ) = t.val * 512 + q) (d : Fin 1024) :
    mixed (iblk m c 0 t) (iblk m c 1 t) (iblk m c 2 t) (iblk m c 3 t) (iblk m c 4 t) (iblk m c 6 t) (iblk m c 7 t) (iblk m c 8 t) (ix2 q d)
      = Cert.MergeRefIdeal.Hand.merged (Cert.MergeRefIdeal.Hand.gates (m ((c.tc : Thread nD τ).loc main_arg4))) (Cert.MergeRefIdeal.Hand.times (mulf (m ((c.tc : Thread nD τ).loc main_arg1)) (m ((c.tc : Thread nD τ).loc main_arg0))) (m ((c.tc : Thread nD τ).loc main_arg6))) (Cert.MergeRefIdeal.Hand.times (m ((c.tc : Thread nD τ).loc main_arg2)) (m ((c.tc : Thread nD τ).loc main_arg7))) (Cert.MergeRefIdeal.Hand.times (m ((c.tc : Thread nD τ).loc main_arg3)) (m ((c.tc : Thread nD τ).loc main_arg8))) (ix2 r d) := by
  rw [Cert.MergeRefIdeal.Hand.merged_apply, Cert.MergeRefIdeal.Hand.gates_apply _ r 0 d ⟨d, by omega⟩ (by simp),
    Cert.MergeRefIdeal.Hand.gates_apply _ r 1 d ⟨1024 + d, by omega⟩ (by simp), Cert.MergeRefIdeal.Hand.gates_apply _ r 2 d ⟨2048 + d, by omega⟩ (by simp),
    Cert.MergeRefIdeal.Hand.times_apply, Cert.MergeRefIdeal.Hand.times_apply, Cert.MergeRefIdeal.Hand.times_apply]
  refine congrArg₂ (fun a b : EReal => a + b) (congrArg₂ (fun a b : EReal => a + b) (congrArg₂ (fun a b : EReal => a * b) (gates_at m c t q _ r hr) ?_)
    (congrArg₂ (fun a b : EReal => a * b) (gates_at m c t q _ r hr) ?_)) (congrArg₂ (fun a b : EReal => a * b) (gates_at m c t q _ r hr) ?_)
  · refine Finset.sum_congr rfl fun k _ => congrArg₂ (fun a b : EReal => a * b) ?_ (w1_at m c t k d)
    exact (congrArg₂ (fun a b : EReal => a * b) (ro_at m c t q k r hr) (rgs_at m c t q k r hr)).trans (mul_comm (G := EReal) _ _)
  · exact Finset.sum_congr rfl fun k _ => congrArg₂ (fun a b : EReal => a * b) (sg_at m c t q k r hr) (w2_at m c t k d)
  · exact Finset.sum_congr rfl fun k _ => congrArg₂ (fun a b : EReal => a * b) (att_at m c t q k r hr) (w3_at m c t k d)

/-- An element of the row before its norm is the reference's. -/
theorem preRow_at (c : Dev nD) (t : Fin cfg0.N) (q : Fin 512) (r : Fin 65536) (hr : (r : ℕ) = t.val * 512 + q) (d : Fin 1024) :
    preRow (fun k => iblk m c 5 t (ix2 q k)) (fun k => (mixed (iblk m c 0 t) (iblk m c 1 t) (iblk m c 2 t) (iblk m c 3 t) (iblk m c 4 t) (iblk m c 6 t) (iblk m c 7 t) (iblk m c 8 t)) (ix2 q k)) (iblk m c 9 t) d
      = Cert.MergeRefIdeal.Hand.preNorm (m ((c.tc : Thread nD τ).loc main_arg5)) (Cert.MergeRefIdeal.Hand.times (Cert.MergeRefIdeal.Hand.merged (Cert.MergeRefIdeal.Hand.gates (m ((c.tc : Thread nD τ).loc main_arg4))) (Cert.MergeRefIdeal.Hand.times (mulf (m ((c.tc : Thread nD τ).loc main_arg1)) (m ((c.tc : Thread nD τ).loc main_arg0))) (m ((c.tc : Thread nD τ).loc main_arg6))) (Cert.MergeRefIdeal.Hand.times (m ((c.tc : Thread nD τ).loc main_arg2)) (m ((c.tc : Thread nD τ).loc main_arg7))) (Cert.MergeRefIdeal.Hand.times (m ((c.tc : Thread nD τ).loc main_arg3)) (m ((c.tc : Thread nD τ).loc main_arg8)))) (m ((c.tc : Thread nD τ).loc main_arg9))) (ix2 r d) := by
  rw [Cert.MergeRefIdeal.Hand.preNorm_apply, Cert.MergeRefIdeal.Hand.times_apply]
  refine congrArg₂ (fun a b : EReal => Ideal.ofBits .f32 0x3FD744FD#32 * a + b) (x_at m c t q d r hr) (Finset.sum_congr rfl fun k _ => ?_)
  exact congrArg₂ (fun a b : EReal => a * b) (mixed_at m c t q r hr k) (wo_at m c t k d)

/-- An element of the row's norm is the reference's. -/
theorem row_at (c : Dev nD) (t : Fin cfg0.N) (q : Fin 512) (r : Fin 65536) (hr : (r : ℕ) = t.val * 512 + q) (d : Fin 1024) :
    lnRow (preRow (fun k => iblk m c 5 t (ix2 q k)) (fun k => (mixed (iblk m c 0 t) (iblk m c 1 t) (iblk m c 2 t) (iblk m c 3 t) (iblk m c 4 t) (iblk m c 6 t) (iblk m c 7 t) (iblk m c 8 t)) (ix2 q k)) (iblk m c 9 t)) (fun k => iblk m c 10 t (ix2 0 k))
        (fun k => iblk m c 11 t (ix2 0 k)) d
      = Cert.MergeRefIdeal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix2 r d) := by
  rw [Cert.MergeRefIdeal.Hand.result, Cert.FfnRefIdeal.Hand.layerNorm_apply, funext (preRow_at m c t q r hr), funext (weight_at m c t),
    funext (bias_at m c t)]

/-- What the body leaves at block index `y` of point `t` is the reference at the array index `y` sits at. -/
theorem point (c : Dev nD) (t : Fin cfg0.N) (y : S512x1024.Idx) (z : Cert.MergeRefIdeal.S65536x1024.Idx)
    (h0 : (z 0 : ℕ) = t.val * 512 + y 0) (h1 : (z 1 : ℕ) = y 1) :
    blockOut (iblk m c 5 t) (mixed (iblk m c 0 t) (iblk m c 1 t) (iblk m c 2 t) (iblk m c 3 t) (iblk m c 4 t) (iblk m c 6 t) (iblk m c 7 t) (iblk m c 8 t)) (iblk m c 9 t) (iblk m c 10 t) (iblk m c 11 t) y
      = Cert.MergeRefIdeal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) z := by
  have ez : z = ix2 (z 0 : Fin 65536) (y 1 : Fin 1024) := (eq_ix2 z).trans (congrArg (ix2 (z 0 : Fin 65536)) (Fin.ext h1))
  exact (row_at m c t (y 0) (z 0) h0 (y 1)).trans (congrArg _ ez.symm)

/-- The first result array after the run is the reference's. -/
theorem final12 (c : Dev nD) : (dats m 0 c).arrAt 12 (cfgs 0).N
    = Cert.MergeRefIdeal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (dats m 0 c).arrAt_eq_of_covers 12 _ (by decide +kernel) fun t hf y => ?_
  blk_simp; rw [after0_12]; frame_out
  refine Eq.trans (b := blockOut (iblk m c 5 t) (mixed (iblk m c 0 t) (iblk m c 1 t) (iblk m c 2 t) (iblk m c 3 t) (iblk m c 4 t) (iblk m c 6 t) (iblk m c 7 t) (iblk m c 8 t)) (iblk m c 9 t) (iblk m c 10 t) (iblk m c 11 t) y) ?_ (point m c t y _ ?_ ?_)
  · generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    generalize iblk m c 10 t = x10
    generalize iblk m c 11 t = x11
    canon_tiles x e
    all_goals
      open_payloads
      pointwise [blockOut, mixed, lnRow, mean, preRow]
      blk_point []
  all_goals (blk_simp [idx_val t] <;> try omega)

/-- The second result array after the run is the reference's. -/
theorem final13 (c : Dev nD) : (dats m 0 c).arrAt 13 (cfgs 0).N
    = Cert.FfnRefIdeal.Hand.narrowed (Cert.MergeRefIdeal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) := by
  refine (dats m 0 c).arrAt_eq_of_covers 13 _ (by decide +kernel) fun t hf y => ?_
  blk_simp; rw [after0_13]; frame_out
  refine Eq.trans (b := blockOut (iblk m c 5 t) (mixed (iblk m c 0 t) (iblk m c 1 t) (iblk m c 2 t) (iblk m c 3 t) (iblk m c 4 t) (iblk m c 6 t) (iblk m c 7 t) (iblk m c 8 t)) (iblk m c 9 t) (iblk m c 10 t) (iblk m c 11 t) y) ?_ (point m c t y _ ?_ ?_)
  · generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    generalize iblk m c 10 t = x10
    generalize iblk m c 11 t = x11
    canon_tiles x e
    all_goals
      open_payloads
      pointwise [blockOut, mixed, lnRow, mean, preRow]
      blk_point []
  all_goals (blk_simp [idx_val t] <;> try omega)

end Cert.MergeIdeal.Hand

end
-- ==== Proof.MergeClaim.lean ====
module

public import proofs.«01_k».proof.Defs
public import proofs.«01_k».proof.Proof.Gen.MergeIdeal.Value
public import proofs.«01_k».proof.Proof.Merge.Block
public import Idealize.ShloMosaic.Lib.Quiescent

@[expose] public section

noncomputable section

namespace Cert.Proof

open Idealize.ShloMosaic Idealize.SL Idealize.SL.Sem

/-- The reference of the merge leaves its arguments alone and every counter at zero. -/
theorem mergeRef_frame : Cert.quiescent_MergeRefIdeal := fun m ρ _ =>
  (θ_run _ _ _).mono (fun r h => ⟨fun c => (h c).2.2, Idealize.ShloMosaic.sem_eq_zero_of_no_sems (by decide) r.2⟩)
    (Cert.MergeRefIdeal.Value.run (F := Ideal) m ρ)

/-- The merge: kernel and reference leave the same two arrays. -/
theorem merge_algebraic : Cert.algebraic_MergeIdeal_MergeRefIdeal := by
  intro m ρ m' ρ' _ hagree
  refine ⟨_, _, Cert.MergeIdeal.Value.run_blocks m ρ, (θ_run _ _ _).mono (fun _ h c => ⟨(h.1 c).1.trans ?_, (h.1 c).2.trans ?_, (h.2 c).2.2⟩)
    (θ_run_and (Cert.MergeRefIdeal.Hand.run_at m' ρ') (Cert.MergeRefIdeal.Value.run (F := Ideal) m' ρ'))⟩
  · rw [Cert.MergeIdeal.Hand.final12 m c]
    obtain ⟨e0, e1, e2, e3, e4, e5, e6, e7, e8, e9, e10, e11⟩ := hagree c
    rw [e0, e1, e2, e3, e4, e5, e6, e7, e8, e9, e10, e11]
  · rw [Cert.MergeIdeal.Hand.final13 m c]
    obtain ⟨e0, e1, e2, e3, e4, e5, e6, e7, e8, e9, e10, e11⟩ := hagree c
    rw [e0, e1, e2, e3, e4, e5, e6, e7, e8, e9, e10, e11]

end Cert.Proof

end
-- ==== Proof.Cross.Ref.lean ====
module

public import proofs.«01_k».proof.Proof.Gen.CrossRefIdeal.Run
public import proofs.«01_k».proof.Proof.Norm
public import proofs.«01_k».proof.Proof.Att.Softmax
public import Idealize.ShloMosaic.Lib.Pipeline.ValueKit

@[expose] public section

set_option maxRecDepth 16384

noncomputable section

namespace Cert.CrossRefIdeal.Hand

open Cert.CrossRefIdeal Cert.CrossRefIdeal.Gen
open Idealize.ShloMosaic Idealize.ShloMosaic.TcCoe Idealize.ShloMosaic.Tactic
open Idealize.SL Idealize.SL.Sem
open Idealize.ShloMosaic.ValueKit
open Cert.Norm

/-- Every row times a square matrix: the queries of all heads side by side, or the output projection. -/
def project (x : FVec Ideal S32x2048x1024 .f32) (w : FVec Ideal S1024x1024 .f32) : FVec Ideal S32x2048x1024 .f32 :=
  Host.dotGeneral dot_S32x2048x1024_S1024x1024_S32x2048x1024_2_0_01_1_n_n none x w

/-- The scaled scores of every query against every key of its head. -/
def scores (q : FVec Ideal S32x2048x1024 .f32) (kv : FVec Ideal S32x256x2048 .f32) : FVec Ideal S32x4x2048x256 .f32 :=
  mulf (Host.dotGeneral dot_S32x2048x4x256_S32x256x4x256_S32x4x2048x256_3_3_1_1_02_02 none (shapeCast S32x2048x4x256 q shapeCasts_S32x2048x1024_S32x2048x4x256) (shapeCast S32x256x4x256 (extractStridedSlice S32x256x1024 ![0, 0, 0] kv slices_S32x256x2048_S32x256x1024_0_0_0) shapeCasts_S32x256x1024_S32x256x4x256)) (broadcastInDim S32x4x2048x256 ![] bcast_S_S32x4x2048x256 (constant S_ .f32 0x3D800000#32))

/-- Every row's maximum. -/
def rowMax (s : FVec Ideal S32x4x2048x256 .f32) : FVec Ideal S32x4x2048 .f32 :=
  Host.reduce FloatOps.maximumf s (constant S_ .f32 0xFF800000#32) reducesTo_S32x4x2048x256_S32x4x2048_d3 h_S_

/-- The exponentials of the scores, each row shifted by the given maximum. -/
def shifted (s : FVec Ideal S32x4x2048x256 .f32) (M : FVec Ideal S32x4x2048 .f32) : FVec Ideal S32x4x2048x256 .f32 :=
  Host.exp (subf s (broadcastInDim S32x4x2048x256 ![0, 1, 2, 3] bcast_S32x4x2048x1_S32x4x2048x256_0_1_2_3 (broadcastInDim S32x4x2048x1 ![0, 1, 2] bcast_S32x4x2048_S32x4x2048x1_0_1_2 (maximumf (broadcastInDim S32x4x2048 ![] bcast_S_S32x4x2048 (constant S_ .f32 0xFF800000#32)) M))))

/-- The softmax weights: the exponentials over their row sums. -/
def weights (e : FVec Ideal S32x4x2048x256 .f32) : FVec Ideal S32x4x2048x256 .f32 :=
  Host.divf e (broadcastInDim S32x4x2048x256 ![0, 1, 2, 3] bcast_S32x4x2048x1_S32x4x2048x256_0_1_2_3 (broadcastInDim S32x4x2048x1 ![0, 1, 2] bcast_S32x4x2048_S32x4x2048x1_0_1_2 (Host.reduceAdd e (constant S_ .f32 0x00000000#32) reducesTo_S32x4x2048x256_S32x4x2048_d3 h_S_)))

/-- The weights applied to the values, the heads side by side. -/
def applied (w : FVec Ideal S32x4x2048x256 .f32) (kv : FVec Ideal S32x256x2048 .f32) : FVec Ideal S32x2048x1024 .f32 :=
  shapeCast S32x2048x1024 (transpose S32x2048x4x256 [0, 3, 1, 2] (Host.dotGeneral dot_S32x256x4x256_S32x4x2048x256_S32x4x256x2048_1_3_3_2_02_01 none (shapeCast S32x256x4x256 (extractStridedSlice S32x256x1024 ![0, 0, 1024] kv slices_S32x256x2048_S32x256x1024_0_0_1024) shapeCasts_S32x256x1024_S32x256x4x256) w) transposes_S32x4x256x2048_S32x2048x4x256_0_3_1_2) shapeCasts_S32x2048x4x256_S32x2048x1024

/-- The attention over the text: the softmax of the queries' scores, applied to the values. -/
def attention (q : FVec Ideal S32x2048x1024 .f32) (kv : FVec Ideal S32x256x2048 .f32) : FVec Ideal S32x2048x1024 .f32 :=
  applied (weights (shifted (scores q kv) (rowMax (scores q kv)))) kv

/-- The scaled residual and the projected heads, added. -/
def preNorm (x o : FVec Ideal S32x2048x1024 .f32) (wo : FVec Ideal S1024x1024 .f32) : FVec Ideal S32x2048x1024 .f32 :=
  addf (mulf (broadcastInDim S32x2048x1024 ![] bcast_S_S32x2048x1024 (constant S_ .f32 0x3FD744FD#32)) x) (project o wo)

/-- Every row's mean. -/
def rowMean (z : FVec Ideal S32x2048x1024 .f32) : FVec Ideal S32x2048x1 .f32 :=
  Host.divf (broadcastInDim S32x2048x1 ![0, 1] bcast_S32x2048_S32x2048x1_0_1 (Host.reduceAdd z (constant S_ .f32 0x00000000#32) reducesTo_S32x2048x1024_S32x2048_d2 h_S_)) (broadcastInDim S32x2048x1 ![] bcast_S_S32x2048x1 (constant S_ .f32 0x44800000#32))

/-- The rows less their means. -/
def centred (z : FVec Ideal S32x2048x1024 .f32) (μ : FVec Ideal S32x2048x1 .f32) : FVec Ideal S32x2048x1024 .f32 :=
  subf z (broadcastInDim S32x2048x1024 ![0, 1, 2] bcast_S32x2048x1_S32x2048x1024_0_1_2 μ)

/-- The centred rows over their deviations, scaled and shifted. -/
def scaled (d : FVec Ideal S32x2048x1024 .f32) (v : FVec Ideal S32x2048x1 .f32) (w b : FVec Ideal S1024 .f32) : FVec Ideal S32x2048x1024 .f32 :=
  addf (mulf (mulf d (broadcastInDim S32x2048x1024 ![0, 1, 2] bcast_S32x2048x1_S32x2048x1024_0_1_2 (Host.rsqrt (addf v (broadcastInDim S32x2048x1 ![] bcast_S_S32x2048x1 (constant S_ .f32 0x3727C5AC#32)))))) (broadcastInDim S32x2048x1024 ![0, 1, 2] bcast_S1x1x1024_S32x2048x1024_0_1_2 (broadcastInDim S1x1x1024 ![2] bcast_S1024_S1x1x1024_2 w))) (broadcastInDim S32x2048x1024 ![0, 1, 2] bcast_S1x1x1024_S32x2048x1024_0_1_2 (broadcastInDim S1x1x1024 ![2] bcast_S1024_S1x1x1024_2 b))

/-- The layer norm of every row. -/
def layerNorm (z : FVec Ideal S32x2048x1024 .f32) (w b : FVec Ideal S1024 .f32) : FVec Ideal S32x2048x1024 .f32 :=
  scaled (centred z (rowMean z)) (rowMean (mulf (centred z (rowMean z)) (centred z (rowMean z)))) w b

/-- The reference's first result. -/
def result (x : FVec Ideal S32x2048x1024 .f32) (kv : FVec Ideal S32x256x2048 .f32) (wq wo : FVec Ideal S1024x1024 .f32) (w b : FVec Ideal S1024 .f32) :
    FVec Ideal S32x2048x1024 .f32 :=
  layerNorm (preNorm x (attention (project x wq) kv) wo) w b

/-- The reference's second result: the first, narrowed. -/
def narrowed (y : FVec Ideal S32x2048x1024 .f32) : FVec Ideal S32x2048x1024 .bf16 := truncf .bf16 y bitsLt_bf16_f32

theorem project_apply (x : FVec Ideal S32x2048x1024 .f32) (w : FVec Ideal S1024x1024 .f32) (b : Fin 32) (r : Fin 2048) (j : Fin 1024) :
    project x w (ix3 b r j) = ∑ k, x (ix3 b r k) * w (ix2 k j) := by
  pointwise [project]

theorem scores_apply (q : FVec Ideal S32x2048x1024 .f32) (kv : FVec Ideal S32x256x2048 .f32) (b : Fin 32) (h : Fin 4) (i : Fin 2048) (j : Fin 256) :
    scores q kv (ix4 b h i j) = (∑ e : Fin 256, q (ix3 b i ⟨h * 256 + e, by omega⟩) * kv (ix3 b j ⟨h * 256 + e, by omega⟩)) * Ideal.ofBits .f32 0x3D800000#32 := by
  pointwise [scores]

theorem shifted_apply (s : FVec Ideal S32x4x2048x256 .f32) (M : FVec Ideal S32x4x2048 .f32) (b : Fin 32) (h : Fin 4) (i : Fin 2048) (j : Fin 256) :
    shifted s M (ix4 b h i j) = Ideal.exp (s (ix4 b h i j) - max (Ideal.ofBits .f32 0xFF800000#32) (M (ix3 b h i))) := by
  pointwise [shifted]

theorem weights_apply (e : FVec Ideal S32x4x2048x256 .f32) (b : Fin 32) (h : Fin 4) (i : Fin 2048) (j : Fin 256) :
    weights e (ix4 b h i j) = Ideal.div (e (ix4 b h i j)) (∑ x, e (ix4 b h i x)) := by
  pointwise [weights]

theorem applied_apply (w : FVec Ideal S32x4x2048x256 .f32) (kv : FVec Ideal S32x256x2048 .f32) (b : Fin 32) (p : Fin 2048) (h : Fin 4) (d : Fin 256) :
    applied w kv (ix3 b p ⟨h * 256 + d, by omega⟩) = ∑ x, kv (ix3 b x ⟨1024 + (h * 256 + d), by omega⟩) * w (ix4 b h p x) := by
  pointwise [applied]

/-- The row maxima of real scores are real. -/
theorem rowMax_real (s : FVec Ideal S32x4x2048x256 .f32) (hs : ∀ i, ∃ r : ℝ, s i = (r : EReal)) (b : Fin 32) (h : Fin 4)
    (i : Fin 2048) : ∃ M : ℝ, rowMax s (ix3 b h i) = (M : EReal) :=
  Cert.Attention.reduce_max_real s _ _ _ (ix4 b h i 0) (by funext a; fin_cases a <;> rfl) hs

/-- The scale of the scores is a real number. -/
theorem scale_real : ∃ r : ℝ, Ideal.ofBits .f32 0x3D800000#32 = (r : EReal) :=
  ⟨1 / 16, by simp [Ideal.ofBits, Ideal.ieee, -EReal.coe_mul]; norm_num⟩

/-- The scores of real rows, query weights and keys are real. -/
theorem scores_real (x : FVec Ideal S32x2048x1024 .f32) (wq : FVec Ideal S1024x1024 .f32) (kv : FVec Ideal S32x256x2048 .f32)
    (x' : S32x2048x1024.Idx → ℝ) (w' : S1024x1024.Idx → ℝ) (k' : Fin 32 → Fin 256 → Fin 1024 → ℝ) (hx : ∀ i, x i = (x' i : EReal))
    (hw : ∀ i, wq i = (w' i : EReal)) (hk : ∀ (b : Fin 32) (j : Fin 256) (c : Fin 1024), kv (ix3 b j ⟨c, by omega⟩) = (k' b j c : EReal))
    (i : S32x4x2048x256.Idx) : ∃ r : ℝ, scores (project x wq) kv i = (r : EReal) := by
  have key : ∀ (b : Fin 32) (h : Fin 4) (p : Fin 2048) (j : Fin 256), ∃ r : ℝ, scores (project x wq) kv (ix4 b h p j) = (r : EReal) := by
    intro b h p j
    obtain ⟨σ, hσ⟩ := scale_real
    have hk' : ∀ e : Fin 256, kv (ix3 b j ⟨h * 256 + e, by omega⟩) = (k' b j ⟨h * 256 + e, by omega⟩ : EReal) := fun e => hk b j ⟨h * 256 + e, by omega⟩
    rw [scores_apply, hσ]
    simp only [project_apply, hx, hw, hk', ← EReal.coe_mul, Cert.Attention.coe_sum]
    exact ⟨_, rfl⟩
  obtain ⟨r, hr⟩ := key (i 0) (i 1) (i 2) (i 3)
  exact ⟨r, (congrArg _ (eq_ix4 i)).trans hr⟩

/-- The attention where the scores are real: the softmax of the row's scores at some real shift, applied to the values. -/
theorem attention_apply (q : FVec Ideal S32x2048x1024 .f32) (kv : FVec Ideal S32x256x2048 .f32) (hs : ∀ i, ∃ r : ℝ, scores q kv i = (r : EReal))
    (b : Fin 32) (p : Fin 2048) (h : Fin 4) (d : Fin 256) (r : Fin 256 → ℝ) (hr : ∀ j, scores q kv (ix4 b h p j) = (r j : EReal)) :
    ∃ M : ℝ, attention q kv (ix3 b p ⟨h * 256 + d, by omega⟩) = ∑ j, kv (ix3 b j ⟨1024 + (h * 256 + d), by omega⟩)
      * Ideal.div ((Real.exp (r j - M) : ℝ) : EReal) (∑ l, ((Real.exp (r l - M) : ℝ) : EReal)) := by
  obtain ⟨M, hM⟩ := rowMax_real (scores q kv) hs b h p
  have he : ∀ j, shifted (scores q kv) (rowMax (scores q kv)) (ix4 b h p j) = ((Real.exp (r j - M) : ℝ) : EReal) := by
    intro j
    rw [shifted_apply, hM, hr, Cert.Attention.ofBits_neg_inf, max_eq_right bot_le, ← EReal.coe_sub]
    rfl
  refine ⟨M, ?_⟩
  unfold attention
  rw [applied_apply]
  refine Finset.sum_congr rfl fun j _ => ?_
  rw [weights_apply]
  simp only [he]

theorem preNorm_apply (x o : FVec Ideal S32x2048x1024 .f32) (wo : FVec Ideal S1024x1024 .f32) (b : Fin 32) (r : Fin 2048) (d : Fin 1024) :
    preNorm x o wo (ix3 b r d) = Ideal.ofBits .f32 0x3FD744FD#32 * x (ix3 b r d) + ∑ k, o (ix3 b r k) * wo (ix2 k d) := by
  pointwise [preNorm, project]

theorem rowMean_apply (z : FVec Ideal S32x2048x1024 .f32) (b : Fin 32) (r : Fin 2048) (u : Fin 1) :
    rowMean z (ix3 b r u) = mean (fun k => z (ix3 b r k)) := by
  pointwise [rowMean, mean]

theorem centred_apply (z : FVec Ideal S32x2048x1024 .f32) (μ : FVec Ideal S32x2048x1 .f32) (b : Fin 32) (r : Fin 2048) (d : Fin 1024) :
    centred z μ (ix3 b r d) = z (ix3 b r d) - μ (ix3 b r 0) := by
  pointwise [centred]

theorem scaled_apply (d : FVec Ideal S32x2048x1024 .f32) (v : FVec Ideal S32x2048x1 .f32) (w b : FVec Ideal S1024 .f32) (n : Fin 32) (r : Fin 2048)
    (k : Fin 1024) :
    scaled d v w b (ix3 n r k) = d (ix3 n r k) * Ideal.rsqrt (v (ix3 n r 0) + Ideal.ofBits .f32 0x3727C5AC#32) * w (ix1 k) + b (ix1 k) := by
  pointwise [scaled]

/-- A product of arrays at an index. -/
theorem mul_at (a b : FVec Ideal S32x2048x1024 .f32) (i : S32x2048x1024.Idx) : mulf a b i = a i * b i := rfl

/-- The layer norm at an index is the row's. -/
theorem layerNorm_apply (z : FVec Ideal S32x2048x1024 .f32) (w b : FVec Ideal S1024 .f32) (n : Fin 32) (r : Fin 2048) (d : Fin 1024) :
    layerNorm z w b (ix3 n r d) = lnRow (fun k => z (ix3 n r k)) (fun k => w (ix1 k)) (fun k => b (ix1 k)) d := by
  simp only [layerNorm, scaled_apply, centred_apply, rowMean_apply, lnRow, mul_at]

theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v51) = narrowed (result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  (θ_run defs _ _).mono (fun _ h c => ⟨(h c).1.trans (by unfold Cert.CrossRefIdeal.Value.res_main_v50 result layerNorm scaled centred rowMean preNorm attention applied weights shifted rowMax scores project; rfl),
    (h c).2.1.trans (by unfold Cert.CrossRefIdeal.Value.res_main_v51 narrowed result layerNorm scaled centred rowMean preNorm attention applied weights shifted rowMax scores project; rfl)⟩) (Cert.CrossRefIdeal.Value.run (F := Ideal) m ρ)

end Cert.CrossRefIdeal.Hand
-- ==== Proof.Cross.Block.lean ====
module

public import proofs.«01_k».proof.Proof.Gen.CrossIdeal.Skeleton
public import proofs.«01_k».proof.Proof.Gen.CrossIdeal.Frame
public import proofs.«01_k».proof.Proof.Cross.Ref
public import proofs.«01_k».proof.Proof.Ffn.Block
public import Idealize.ShloMosaic.Lib.Pipeline.ValueKit

@[expose] public section

set_option maxRecDepth 16384

noncomputable section

namespace Cert.CrossIdeal.Hand

open Idealize.ShloMosaic Idealize.ShloMosaic.TcCoe Idealize.SL.Sem
open Idealize.ShloMosaic.Pipeline (Dat)
open Cert.CrossIdeal Cert.CrossIdeal.Gen
open Cert.Norm
open Cert.FfnIdeal.Hand (readCov_ld canon_ext)

variable (m : (ℓ : Loc nD τ sig) → Buf (Elt Ideal) ℓ)

/-- The scaled score of row `r` of a block against key `j`, in head `h`. -/
def score (x : FVec Ideal S1x1024x1024 .bf16) (kv : FVec Ideal S1x256x2048 .bf16) (wq : FVec Ideal S1024x1024 .bf16) (r : Fin 1024) (h : Fin 4)
    (j : Fin 256) : EReal :=
  (∑ e : Fin 256, (∑ k, x (ix3 0 r k) * wq (ix2 k ⟨h * 256 + e, by omega⟩)) * kv (ix3 0 j ⟨h * 256 + e, by omega⟩)) * Ideal.ofBits .f32 0x3D800000#32

/-- The exponential of a score less the greatest of its row. -/
def weight (s : Fin 256 → EReal) (j : Fin 256) : EReal := Ideal.exp (s j - Finset.fold max (Ideal.ofBits .f32 0xFF800000#32) s Finset.univ)

/-- The weighted sum of the values over the sum of the weights. -/
def quotient (w v : Fin 256 → EReal) : EReal := Ideal.div (∑ j, w j * v j) (∑ j, w j)

/-- Row `r` of head `h` at column `d` of the head. -/
def head (x : FVec Ideal S1x1024x1024 .bf16) (kv : FVec Ideal S1x256x2048 .bf16) (wq : FVec Ideal S1024x1024 .bf16) (r : Fin 1024) (h : Fin 4)
    (d : Fin 256) : EReal :=
  quotient (weight (score x kv wq r h)) (fun j => kv (ix3 0 j ⟨1024 + (h * 256 + d), by omega⟩))

/-- The head a column lies in. -/
def headOf (z : Fin 1024) : Fin 4 := ⟨z / 256, by omega⟩

/-- A column's place in its head. -/
def placeOf (z : Fin 1024) : Fin 256 := ⟨z % 256, by omega⟩

/-- The heads of a block of rows, side by side. -/
def heads (x : FVec Ideal S1x1024x1024 .bf16) (kv : FVec Ideal S1x256x2048 .bf16) (wq : FVec Ideal S1024x1024 .bf16) : FVec Ideal S1024x1024 .bf16 :=
  fun y => head x kv wq (y 0) (headOf (y 1)) (placeOf (y 1))

/-- The heads at an index, by the head its column lies in. -/
theorem heads_at (x : FVec Ideal S1x1024x1024 .bf16) (kv : FVec Ideal S1x256x2048 .bf16) (wq : FVec Ideal S1024x1024 .bf16) (y : S1024x1024.Idx)
    (r : Fin 1024) (h : Fin 4) (d : Fin 256) (h0 : (y 0 : ℕ) = r) (h1 : (y 1 : ℕ) = h * 256 + d) :
    heads x kv wq y = head x kv wq r h d := by
  have e0 : y 0 = r := Fin.ext h0
  have e1 : headOf (y 1) = h := Fin.ext (by simp only [headOf]; omega)
  have e2 : placeOf (y 1) = d := Fin.ext (by simp only [placeOf]; omega)
  rw [heads, e0, e1, e2]

/-- A row before its norm: the scaled residual and the heads' projection. -/
def preRow (x o : Fin 1024 → EReal) (wo : FVec Ideal S1024x1024 .bf16) (d : Fin 1024) : EReal :=
  Ideal.ofBits .f32 0x3FD744FD#32 * x d + ∑ k, o k * wo (ix2 k d)

/-- What a point's body leaves in its block of results. -/
def blockOut (x : FVec Ideal S1x1024x1024 .f32) (o : FVec Ideal S1024x1024 .bf16) (wo : FVec Ideal S1024x1024 .bf16)
    (w b : FVec Ideal S1x1024 .f32) (y : S1x1024x1024.Idx) : EReal :=
  lnRow (preRow (fun k => x (ix3 0 (y 1) k)) (fun k => o (ix2 (y 1) k)) wo) (fun k => w (ix2 0 k)) (fun k => b (ix2 0 k)) (y 2)

/-- The windows' block indices at point `t`: the text's entry and the half of its rows. -/
theorem idx_val : ∀ t : Fin cfg0.N, win0_0.index t = ![t.val / 2, t.val % 2, 0] ∧ win0_1.index t = ![t.val / 2, t.val % 2, 0]
    ∧ win0_2.index t = ![t.val / 2, 0, 0] ∧ win0_3.index t = ![0, 0] ∧ win0_4.index t = ![0, 0] ∧ win0_5.index t = ![0, 0]
    ∧ win0_6.index t = ![0, 0] ∧ win0_7.index t = ![t.val / 2, t.val % 2, 0] ∧ win0_8.index t = ![t.val / 2, t.val % 2, 0] :=
  (by decide +kernel : ∀ t : Fin grid0.N, _)

/-- An element of the rows' block. -/
theorem xblock_at (c : Dev nD) (t : Fin cfg0.N) (r k : Fin 1024) (n : Fin 32) (z : Fin 2048) (hn : (n : ℕ) = t.val / 2) (hz : (z : ℕ) = t.val % 2 * 1024 + r) :
    iblk m c 0 t (ix3 0 r k) = m ((c.tc : Thread nD τ).loc main_arg0) (ix3 n z k) := by
  blk_simp [iblk, idx_val t]
  entry_read
  pointwise
  blk_point [idx_val t]

/-- An element of the rows' narrowed block. -/
theorem xbits_at (c : Dev nD) (t : Fin cfg0.N) (r k : Fin 1024) (n : Fin 32) (z : Fin 2048) (hn : (n : ℕ) = t.val / 2) (hz : (z : ℕ) = t.val % 2 * 1024 + r) :
    iblk m c 1 t (ix3 0 r k) = m ((c.tc : Thread nD τ).loc main_arg0) (ix3 n z k) := by
  blk_simp [iblk, idx_val t]
  entry_read
  pointwise
  blk_point [idx_val t]

/-- An element of the text's keys and values. -/
theorem kv_at (c : Dev nD) (t : Fin cfg0.N) (j : Fin 256) (k : Fin 2048) (n : Fin 32) (hn : (n : ℕ) = t.val / 2) :
    iblk m c 2 t (ix3 0 j k) = m ((c.tc : Thread nD τ).loc main_arg1) (ix3 n j k) := by
  blk_simp [iblk, idx_val t]
  entry_read
  pointwise
  blk_point [idx_val t]

/-- An element of the queries' matrix. -/
theorem query_at (c : Dev nD) (t : Fin cfg0.N) (k d : Fin 1024) :
    iblk m c 3 t (ix2 k d) = m ((c.tc : Thread nD τ).loc main_arg2) (ix2 k d) := by
  blk_simp [iblk, idx_val t]
  entry_read
  pointwise
  blk_point [idx_val t]

/-- An element of the output matrix. -/
theorem out_at (c : Dev nD) (t : Fin cfg0.N) (k d : Fin 1024) :
    iblk m c 4 t (ix2 k d) = m ((c.tc : Thread nD τ).loc main_arg3) (ix2 k d) := by
  blk_simp [iblk, idx_val t]
  entry_read
  pointwise
  blk_point [idx_val t]

/-- An element of the norm's weights. -/
theorem weight_at (c : Dev nD) (t : Fin cfg0.N) (d : Fin 1024) :
    iblk m c 5 t (ix2 0 d) = m ((c.tc : Thread nD τ).loc main_arg4) (ix1 d) := by
  blk_simp [iblk, idx_val t]
  entry_read
  pointwise
  blk_point [idx_val t]

/-- An element of the norm's biases. -/
theorem bias_at (c : Dev nD) (t : Fin cfg0.N) (d : Fin 1024) :
    iblk m c 6 t (ix2 0 d) = m ((c.tc : Thread nD τ).loc main_arg5) (ix1 d) := by
  blk_simp [iblk, idx_val t]
  entry_read
  pointwise
  blk_point [idx_val t]

end Cert.CrossIdeal.Hand

end
-- ==== Proof.Cross.Final.lean ====
module

public import proofs.«01_k».proof.Proof.Cross.Block

@[expose] public section

set_option maxRecDepth 16384

noncomputable section

namespace Cert.CrossIdeal.Hand

open Idealize.ShloMosaic Idealize.ShloMosaic.TcCoe Idealize.SL.Sem
open Idealize.ShloMosaic.Pipeline (Dat)
open Cert.CrossIdeal Cert.CrossIdeal.Gen
open Cert.Norm
open Cert.FfnIdeal.Hand (readCov_ld canon_ext)

variable (m : (ℓ : Loc nD τ sig) → Buf (Elt Ideal) ℓ)

/-- The score against a block of keys, with the queries' columns from `o` on. -/
def chunkScore (x : FVec Ideal S1x1024x1024 .bf16) (wq : FVec Ideal S1024x1024 .bf16) (k : FVec Ideal S1x256x256 .bf16) (o : ℕ) (ho : o + 256 ≤ 1024)
    (r : Fin 1024) (j : Fin 256) : EReal :=
  (∑ e : Fin 256, (∑ l, x (ix3 0 r l) * wq (ix2 l ⟨o + e, by omega⟩)) * k (ix3 0 j e)) * Ideal.ofBits .f32 0x3D800000#32

/-- What the body computes for the first head. -/
theorem chunk0 (x1 : FVec Ideal S1x1024x1024 .bf16) (x3 : FVec Ideal S1024x1024 .bf16) (k v : FVec Ideal S1x256x256 .bf16) (r : Fin 1024) (d : Fin 256) :
    k0_pay3 (F := Ideal) x1 x3 k v (ix2 r d) = quotient (weight (chunkScore x1 x3 k 0 (by norm_num) r)) (fun j => v (ix3 0 j d)) := by
  open_payloads
  pointwise [quotient, weight, chunkScore]

/-- What the body computes for the second head. -/
theorem chunk1 (x1 : FVec Ideal S1x1024x1024 .bf16) (x3 : FVec Ideal S1024x1024 .bf16) (k v : FVec Ideal S1x256x256 .bf16) (r : Fin 1024) (d : Fin 256) :
    k0_pay5 (F := Ideal) (k0_pay2 (F := Ideal) x1 x3) (k0_pay4 (F := Ideal) k) v (ix2 r d) = quotient (weight (chunkScore x1 x3 k 256 (by norm_num) r)) (fun j => v (ix3 0 j d)) := by
  open_payloads
  pointwise [quotient, weight, chunkScore]

/-- What the body computes for the third head. -/
theorem chunk2 (x1 : FVec Ideal S1x1024x1024 .bf16) (x3 : FVec Ideal S1024x1024 .bf16) (k v : FVec Ideal S1x256x256 .bf16) (r : Fin 1024) (d : Fin 256) :
    k0_pay7 (F := Ideal) (k0_pay6 (F := Ideal) (k0_pay2 (F := Ideal) x1 x3) k v) (ix2 r d) = quotient (weight (chunkScore x1 x3 k 512 (by norm_num) r)) (fun j => v (ix3 0 j d)) := by
  open_payloads
  pointwise [quotient, weight, chunkScore]

/-- What the body computes for the fourth head. -/
theorem chunk3 (x1 : FVec Ideal S1x1024x1024 .bf16) (x3 : FVec Ideal S1024x1024 .bf16) (k v : FVec Ideal S1x256x256 .bf16) (r : Fin 1024) (d : Fin 256) :
    k0_pay8 (F := Ideal) (k0_pay2 (F := Ideal) x1 x3) k v (ix2 r d) = quotient (weight (chunkScore x1 x3 k 768 (by norm_num) r)) (fun j => v (ix3 0 j d)) := by
  open_payloads
  pointwise [quotient, weight, chunkScore]

/-- A head of a block, from what the body loads of the text for it. -/
theorem chunk_head (x1 : FVec Ideal S1x1024x1024 .bf16) (x2 : FVec Ideal S1x256x2048 .bf16) (x3 : FVec Ideal S1024x1024 .bf16)
    (k v : FVec Ideal S1x256x256 .bf16) (o : ℕ) (ho : o + 256 ≤ 1024) (h : Fin 4) (hh : o = h * 256) (r : Fin 1024) (d : Fin 256) (y : S1024x1024.Idx)
    (h0 : (y 0 : ℕ) = r) (h1 : (y 1 : ℕ) = o + d)
    (hk : ∀ (j e : Fin 256) (z : Fin 2048), (z : ℕ) = o + e → k (ix3 0 j e) = x2 (ix3 0 j z))
    (hv : ∀ (j e : Fin 256) (z : Fin 2048), (z : ℕ) = 1024 + o + e → v (ix3 0 j e) = x2 (ix3 0 j z)) :
    quotient (weight (chunkScore x1 x3 k o ho r)) (fun j => v (ix3 0 j d)) = heads x1 x2 x3 y := by
  subst hh
  rw [heads_at x1 x2 x3 y r h d h0 h1, head]
  have es : chunkScore x1 x3 k (h * 256) ho r = score x1 x2 x3 r h := funext fun j => by
    unfold chunkScore score
    exact congrArg (fun a : EReal => a * Ideal.ofBits .f32 0x3D800000#32)
      (Finset.sum_congr rfl fun e _ => congrArg (fun a : EReal => _ * a) (hk j e _ rfl))
  rw [es]
  exact congrArg _ (funext fun j => hv j d _ (by simp only; omega))

/-- What the body computes for the first quarter of the rows. -/
theorem tile0 (o : FVec Ideal S256x1024 .bf16) (wo : FVec Ideal S1024x1024 .bf16) (x : FVec Ideal S1x256x1024 .f32) (w b : FVec Ideal S1x1024 .f32)
    (r : Fin 256) (d : Fin 1024) :
    k0_pay11 (F := Ideal) (k0_pay9 (F := Ideal) o wo x) w b (ix3 0 r d)
      = lnRow (preRow (fun k => x (ix3 0 r k)) (fun k => o (ix2 r k)) wo) (fun k => w (ix2 0 k)) (fun k => b (ix2 0 k)) d := by
  open_payloads
  pointwise [lnRow, mean, preRow]

/-- What the body computes for the second quarter of the rows. -/
theorem tile1 (o : FVec Ideal S256x1024 .bf16) (wo : FVec Ideal S1024x1024 .bf16) (x : FVec Ideal S1x256x1024 .f32) (w b : FVec Ideal S1x1024 .f32)
    (r : Fin 256) (d : Fin 1024) :
    k0_pay15 (F := Ideal) (k0_pay13 (F := Ideal) o wo) x w b (ix3 0 r d)
      = lnRow (preRow (fun k => x (ix3 0 r k)) (fun k => o (ix2 r k)) wo) (fun k => w (ix2 0 k)) (fun k => b (ix2 0 k)) d := by
  open_payloads
  pointwise [lnRow, mean, preRow]

/-- What the body computes for the third quarter of the rows. -/
theorem tile2 (o : FVec Ideal S256x1024 .bf16) (wo : FVec Ideal S1024x1024 .bf16) (x : FVec Ideal S1x256x1024 .f32) (w b : FVec Ideal S1x1024 .f32)
    (r : Fin 256) (d : Fin 1024) :
    k0_pay18 (F := Ideal) o wo x w b (ix3 0 r d)
      = lnRow (preRow (fun k => x (ix3 0 r k)) (fun k => o (ix2 r k)) wo) (fun k => w (ix2 0 k)) (fun k => b (ix2 0 k)) d := by
  open_payloads
  pointwise [lnRow, mean, preRow]

/-- What the body computes for the fourth quarter of the rows. -/
theorem tile3 (o : FVec Ideal S256x1024 .bf16) (wo : FVec Ideal S1024x1024 .bf16) (x : FVec Ideal S1x256x1024 .f32) (w b : FVec Ideal S1x1024 .f32)
    (r : Fin 256) (d : Fin 1024) :
    k0_pay21 (F := Ideal) o wo x w b (ix3 0 r d)
      = lnRow (preRow (fun k => x (ix3 0 r k)) (fun k => o (ix2 r k)) wo) (fun k => w (ix2 0 k)) (fun k => b (ix2 0 k)) d := by
  open_payloads
  pointwise [lnRow, mean, preRow]

/-- What the body computes for the first quarter of the rows, narrowed. -/
theorem narrow0 (o : FVec Ideal S256x1024 .bf16) (wo : FVec Ideal S1024x1024 .bf16) (x : FVec Ideal S1x256x1024 .f32) (w b : FVec Ideal S1x1024 .f32)
    (r : Fin 256) (d : Fin 1024) :
    k0_pay12 (F := Ideal) (k0_pay9 (F := Ideal) o wo x) w b (ix3 0 r d)
      = lnRow (preRow (fun k => x (ix3 0 r k)) (fun k => o (ix2 r k)) wo) (fun k => w (ix2 0 k)) (fun k => b (ix2 0 k)) d := by
  open_payloads
  pointwise [lnRow, mean, preRow]

/-- What the body computes for the second quarter of the rows, narrowed. -/
theorem narrow1 (o : FVec Ideal S256x1024 .bf16) (wo : FVec Ideal S1024x1024 .bf16) (x : FVec Ideal S1x256x1024 .f32) (w b : FVec Ideal S1x1024 .f32)
    (r : Fin 256) (d : Fin 1024) :
    k0_pay16 (F := Ideal) (k0_pay13 (F := Ideal) o wo) x w b (ix3 0 r d)
      = lnRow (preRow (fun k => x (ix3 0 r k)) (fun k => o (ix2 r k)) wo) (fun k => w (ix2 0 k)) (fun k => b (ix2 0 k)) d := by
  open_payloads
  pointwise [lnRow, mean, preRow]

/-- What the body computes for the third quarter of the rows, narrowed. -/
theorem narrow2 (o : FVec Ideal S256x1024 .bf16) (wo : FVec Ideal S1024x1024 .bf16) (x : FVec Ideal S1x256x1024 .f32) (w b : FVec Ideal S1x1024 .f32)
    (r : Fin 256) (d : Fin 1024) :
    k0_pay19 (F := Ideal) o wo x w b (ix3 0 r d)
      = lnRow (preRow (fun k => x (ix3 0 r k)) (fun k => o (ix2 r k)) wo) (fun k => w (ix2 0 k)) (fun k => b (ix2 0 k)) d := by
  open_payloads
  pointwise [lnRow, mean, preRow]

/-- What the body computes for the fourth quarter of the rows, narrowed. -/
theorem narrow3 (o : FVec Ideal S256x1024 .bf16) (wo : FVec Ideal S1024x1024 .bf16) (x : FVec Ideal S1x256x1024 .f32) (w b : FVec Ideal S1x1024 .f32)
    (r : Fin 256) (d : Fin 1024) :
    k0_pay1 (F := Ideal) (k0_pay22 (F := Ideal) o wo x w b) (ix3 0 r d)
      = lnRow (preRow (fun k => x (ix3 0 r k)) (fun k => o (ix2 r k)) wo) (fun k => w (ix2 0 k)) (fun k => b (ix2 0 k)) d := by
  open_payloads
  pointwise [lnRow, mean, preRow]

/-- A block's results, from what the body loads for a quarter of its rows. -/
theorem tile_out (x0 : FVec Ideal S1x1024x1024 .f32) (h : FVec Ideal S1024x1024 .bf16) (o : FVec Ideal S256x1024 .bf16) (wo : FVec Ideal S1024x1024 .bf16)
    (x : FVec Ideal S1x256x1024 .f32) (w b : FVec Ideal S1x1024 .f32) (n : ℕ) (r : Fin 256) (d : Fin 1024) (y : S1x1024x1024.Idx)
    (h1 : (y 1 : ℕ) = n + r) (h2 : (y 2 : ℕ) = d)
    (hx : ∀ (r : Fin 256) (k z : Fin 1024), (z : ℕ) = n + r → x (ix3 0 r k) = x0 (ix3 0 z k))
    (ho : ∀ (r : Fin 256) (k z : Fin 1024), (z : ℕ) = n + r → o (ix2 r k) = h (ix2 z k)) :
    lnRow (preRow (fun k => x (ix3 0 r k)) (fun k => o (ix2 r k)) wo) (fun k => w (ix2 0 k)) (fun k => b (ix2 0 k)) d = blockOut x0 h wo w b y := by
  have e2 : y 2 = d := Fin.ext h2
  rw [blockOut, e2, funext fun k => hx r k (y 1) h1, funext fun k => ho r k (y 1) h1]

/-- With real scores, the quotient is the softmax at any real shift, applied to the values. -/
theorem quotient_softmax (s v : Fin 256 → EReal) (r : Fin 256 → ℝ) (hs : ∀ j, s j = (r j : EReal)) (M : ℝ) :
    quotient (weight s) v = ∑ j, v j * Ideal.div ((Real.exp (r j - M) : ℝ) : EReal) (∑ l, ((Real.exp (r l - M) : ℝ) : EReal)) := by
  obtain ⟨a, ha⟩ := Cert.Attention.fold_max_real s r hs
  have hw : ∀ j, weight s j = ((Real.exp (r j - a) : ℝ) : EReal) := fun j => by
    rw [weight, Cert.Attention.ofBits_neg_inf, ha, hs, ← EReal.coe_sub]; rfl
  have h := Cert.Attention.quotient_eq_softmax r a M v
  unfold quotient
  simp only [hw]
  simp only [mul_one] at h
  rw [h]
  exact Finset.sum_congr rfl fun j _ => mul_comm _ _

section Point

open Cert.CrossRefIdeal.Hand (scores project attention preNorm result narrowed)

variable (c : Dev nD)

/-- A score of the block is the reference's. -/
theorem score_at (t : Fin cfg0.N) (q : Fin 1024) (n : Fin 32) (p : Fin 2048) (hn : (n : ℕ) = t.val / 2) (hp : (p : ℕ) = t.val % 2 * 1024 + q)
    (h : Fin 4) (j : Fin 256) :
    score (iblk m c 1 t) (iblk m c 2 t) (iblk m c 3 t) q h j
      = scores (project (m ((c.tc : Thread nD τ).loc main_arg0)) (m ((c.tc : Thread nD τ).loc main_arg2))) (m ((c.tc : Thread nD τ).loc main_arg1)) (ix4 n h p j) := by
  rw [Cert.CrossRefIdeal.Hand.scores_apply, score]
  refine congrArg (fun a : EReal => a * Ideal.ofBits .f32 0x3D800000#32) (Finset.sum_congr rfl fun e _ => ?_)
  rw [Cert.CrossRefIdeal.Hand.project_apply]
  refine congrArg₂ (fun a b : EReal => a * b) (Finset.sum_congr rfl fun k _ => ?_) (kv_at m c t j _ n hn)
  exact congrArg₂ (fun a b : EReal => a * b) (xbits_at m c t q k n p hn hp) (query_at m c t k _)

variable (hs : ∀ i, ∃ r : ℝ, scores (project (m ((c.tc : Thread nD τ).loc main_arg0)) (m ((c.tc : Thread nD τ).loc main_arg2))) (m ((c.tc : Thread nD τ).loc main_arg1)) i = (r : EReal))

include hs

/-- An element of the heads is the reference's. -/
theorem heads_point (t : Fin cfg0.N) (q : Fin 1024) (n : Fin 32) (p : Fin 2048) (hn : (n : ℕ) = t.val / 2) (hp : (p : ℕ) = t.val % 2 * 1024 + q)
    (k : Fin 1024) :
    heads (iblk m c 1 t) (iblk m c 2 t) (iblk m c 3 t) (ix2 q k)
      = attention (project (m ((c.tc : Thread nD τ).loc main_arg0)) (m ((c.tc : Thread nD τ).loc main_arg2))) (m ((c.tc : Thread nD τ).loc main_arg1)) (ix3 n p k) := by
  have ek : k = ⟨(headOf k : ℕ) * 256 + placeOf k, by have := (headOf k).isLt; have := (placeOf k).isLt; omega⟩ :=
    Fin.ext (by simp only [headOf, placeOf]; omega)
  choose r hr using fun j => hs (ix4 n (headOf k) p j)
  obtain ⟨M, hM⟩ := Cert.CrossRefIdeal.Hand.attention_apply _ _ hs n p (headOf k) (placeOf k) r hr
  refine Eq.trans ?_ (hM.symm.trans (congrArg _ (congrArg (ix3 n p) ek.symm)))
  refine (quotient_softmax _ _ r (fun j => (score_at m c t q n p hn hp (headOf k) j).trans (hr j)) M).trans ?_
  exact Finset.sum_congr rfl fun j _ => congrArg (fun a : EReal => a * _) (kv_at m c t j _ n hn)

/-- An element of the row before its norm is the reference's. -/
theorem preRow_at (t : Fin cfg0.N) (q : Fin 1024) (n : Fin 32) (p : Fin 2048) (hn : (n : ℕ) = t.val / 2) (hp : (p : ℕ) = t.val % 2 * 1024 + q) (d : Fin 1024) :
    preRow (fun k => iblk m c 0 t (ix3 0 q k)) (fun k => (heads (iblk m c 1 t) (iblk m c 2 t) (iblk m c 3 t)) (ix2 q k)) (iblk m c 4 t) d
      = preNorm (m ((c.tc : Thread nD τ).loc main_arg0)) (attention (project (m ((c.tc : Thread nD τ).loc main_arg0)) (m ((c.tc : Thread nD τ).loc main_arg2))) (m ((c.tc : Thread nD τ).loc main_arg1)))
          (m ((c.tc : Thread nD τ).loc main_arg3)) (ix3 n p d) := by
  rw [Cert.CrossRefIdeal.Hand.preNorm_apply]
  refine congrArg₂ (fun a b : EReal => Ideal.ofBits .f32 0x3FD744FD#32 * a + b) (xblock_at m c t q d n p hn hp) (Finset.sum_congr rfl fun k _ => ?_)
  exact congrArg₂ (fun a b : EReal => a * b) (heads_point m c hs t q n p hn hp k) (out_at m c t k d)

/-- An element of the row's norm is the reference's. -/
theorem row_at (t : Fin cfg0.N) (q : Fin 1024) (n : Fin 32) (p : Fin 2048) (hn : (n : ℕ) = t.val / 2) (hp : (p : ℕ) = t.val % 2 * 1024 + q) (d : Fin 1024) :
    lnRow (preRow (fun k => iblk m c 0 t (ix3 0 q k)) (fun k => (heads (iblk m c 1 t) (iblk m c 2 t) (iblk m c 3 t)) (ix2 q k)) (iblk m c 4 t)) (fun k => iblk m c 5 t (ix2 0 k))
        (fun k => iblk m c 6 t (ix2 0 k)) d
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix3 n p d) := by
  rw [result, Cert.CrossRefIdeal.Hand.layerNorm_apply, funext (preRow_at m c hs t q n p hn hp), funext (weight_at m c t),
    funext (bias_at m c t)]

/-- What the body leaves at block index `y` of point `t` is the reference at the array index `y` sits at. -/
theorem point (t : Fin cfg0.N) (y : S1x1024x1024.Idx) (z : Cert.CrossRefIdeal.S32x2048x1024.Idx)
    (h0 : (z 0 : ℕ) = t.val / 2) (h1 : (z 1 : ℕ) = t.val % 2 * 1024 + y 1) (h2 : (z 2 : ℕ) = y 2) :
    blockOut (iblk m c 0 t) (heads (iblk m c 1 t) (iblk m c 2 t) (iblk m c 3 t)) (iblk m c 4 t) (iblk m c 5 t) (iblk m c 6 t) y
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) z := by
  have ez : z = ix3 (z 0 : Fin 32) (z 1 : Fin 2048) (y 2 : Fin 1024) := (eq_ix3 z).trans (congrArg (ix3 (z 0 : Fin 32) (z 1 : Fin 2048)) (Fin.ext h2))
  exact (row_at m c hs t (y 1) (z 0) (z 1) h0 h1 (y 2)).trans (congrArg _ ez.symm)

omit hs in
/-- An index of a quarter of the rows has a zero first coordinate. -/
theorem quarter_idx (x : S1x256x1024.Idx) : ∃ (a : Fin 256) (b : Fin 1024), x = ix3 0 a b :=
  ⟨x 1, x 2, (eq_ix3 x).trans (congrArg (fun u : Fin 1 => ix3 u (x 1 : Fin 256) (x 2 : Fin 1024)) (@Subsingleton.elim (Fin 1) _ (x 0) 0))⟩

/-- The first result array after the run is the reference's. -/
theorem final7 : (dats m 0 c).arrAt 7 (cfgs 0).N
    = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 7 _ (by decide +kernel) fun t hf y => ?_
  blk_simp; rw [after0_7]; unfold outsAt0; frame_out
  refine Eq.trans (b := blockOut (iblk m c 0 t) (heads (iblk m c 1 t) (iblk m c 2 t) (iblk m c 3 t)) (iblk m c 4 t) (iblk m c 5 t) (iblk m c 6 t) y) ?_ (point m c hs t y _ ?_ ?_ ?_)
  · clear hs
    generalize iblk m c 0 t = x0
    generalize iblk m c 1 t = x1
    generalize iblk m c 2 t = x2
    generalize iblk m c 3 t = x3
    generalize iblk m c 4 t = x4
    generalize iblk m c 5 t = x5
    generalize iblk m c 6 t = x6
    simp only [readCov_ld]
    rw [canon_ext (s := S1024x1024) _ (heads x1 x2 x3)]
    · generalize heads x1 x2 x3 = h
      canon_tiles x e
      · obtain ⟨a, b, rfl⟩ := quarter_idx x
        refine (tile3 _ _ _ _ _ a b).trans (tile_out x0 _ _ _ _ _ _ 768 a b y e1 e2 ?_ ?_)
        all_goals
          intro r k z hz
          pointwise
          blk_point []
      · obtain ⟨a, b, rfl⟩ := quarter_idx x
        refine (tile2 _ _ _ _ _ a b).trans (tile_out x0 _ _ _ _ _ _ 512 a b y e1 e2 ?_ ?_)
        all_goals
          intro r k z hz
          pointwise
          blk_point []
      · obtain ⟨a, b, rfl⟩ := quarter_idx x
        refine (tile1 _ _ _ _ _ a b).trans (tile_out x0 _ _ _ _ _ _ 256 a b y e1 e2 ?_ ?_)
        all_goals
          intro r k z hz
          pointwise
          blk_point []
      · obtain ⟨a, b, rfl⟩ := quarter_idx x
        refine (tile0 _ _ _ _ _ a b).trans (tile_out x0 _ _ _ _ _ _ 0 a b y (e1.trans (Nat.zero_add _).symm) e2 ?_ ?_)
        all_goals
          intro r k z hz
          pointwise
          blk_point []
    · intro j
      canon_tiles x e
      · obtain ⟨a, b, rfl⟩ : ∃ (a : Fin 1024) (b : Fin 256), x = ix2 a b := ⟨x 0, x 1, eq_ix2 x⟩
        refine (chunk3 x1 x3 _ _ a b).trans (chunk_head x1 x2 x3 _ _ 768 _ 3 rfl a b j e0 e1 ?_ ?_)
        all_goals
          intro l k z hz
          pointwise
          blk_point []
      · obtain ⟨a, b, rfl⟩ : ∃ (a : Fin 1024) (b : Fin 256), x = ix2 a b := ⟨x 0, x 1, eq_ix2 x⟩
        refine (chunk2 x1 x3 _ _ a b).trans (chunk_head x1 x2 x3 _ _ 512 _ 2 rfl a b j e0 e1 ?_ ?_)
        all_goals
          intro l k z hz
          pointwise
          blk_point []
      · obtain ⟨a, b, rfl⟩ : ∃ (a : Fin 1024) (b : Fin 256), x = ix2 a b := ⟨x 0, x 1, eq_ix2 x⟩
        refine (chunk1 x1 x3 _ _ a b).trans (chunk_head x1 x2 x3 _ _ 256 _ 1 rfl a b j e0 e1 ?_ ?_)
        all_goals
          intro l k z hz
          pointwise
          blk_point []
      · obtain ⟨a, b, rfl⟩ : ∃ (a : Fin 1024) (b : Fin 256), x = ix2 a b := ⟨x 0, x 1, eq_ix2 x⟩
        refine (chunk0 x1 x3 _ _ a b).trans (chunk_head x1 x2 x3 _ _ 0 _ 0 rfl a b j e0 (e1.trans (Nat.zero_add _).symm) ?_ ?_)
        all_goals
          intro l k z hz
          pointwise
          blk_point []
  all_goals (blk_simp [idx_val t] <;> try omega)

/-- The second result array after the run is the reference's. -/
theorem final8 : (dats m 0 c).arrAt 8 (cfgs 0).N
    = narrowed (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 8 _ (by decide +kernel) fun t hf y => ?_
  blk_simp; rw [after0_8]; unfold outsAt0; frame_out
  refine Eq.trans (b := blockOut (iblk m c 0 t) (heads (iblk m c 1 t) (iblk m c 2 t) (iblk m c 3 t)) (iblk m c 4 t) (iblk m c 5 t) (iblk m c 6 t) y) ?_ (point m c hs t y _ ?_ ?_ ?_)
  · clear hs
    generalize iblk m c 0 t = x0
    generalize iblk m c 1 t = x1
    generalize iblk m c 2 t = x2
    generalize iblk m c 3 t = x3
    generalize iblk m c 4 t = x4
    generalize iblk m c 5 t = x5
    generalize iblk m c 6 t = x6
    simp only [readCov_ld]
    rw [canon_ext (s := S1024x1024) _ (heads x1 x2 x3)]
    · generalize heads x1 x2 x3 = h
      canon_tiles x e
      · obtain ⟨a, b, rfl⟩ := quarter_idx x
        refine (narrow3 _ _ _ _ _ a b).trans (tile_out x0 _ _ _ _ _ _ 768 a b y e1 e2 ?_ ?_)
        all_goals
          intro r k z hz
          pointwise
          blk_point []
      · obtain ⟨a, b, rfl⟩ := quarter_idx x
        refine (narrow2 _ _ _ _ _ a b).trans (tile_out x0 _ _ _ _ _ _ 512 a b y e1 e2 ?_ ?_)
        all_goals
          intro r k z hz
          pointwise
          blk_point []
      · obtain ⟨a, b, rfl⟩ := quarter_idx x
        refine (narrow1 _ _ _ _ _ a b).trans (tile_out x0 _ _ _ _ _ _ 256 a b y e1 e2 ?_ ?_)
        all_goals
          intro r k z hz
          pointwise
          blk_point []
      · obtain ⟨a, b, rfl⟩ := quarter_idx x
        refine (narrow0 _ _ _ _ _ a b).trans (tile_out x0 _ _ _ _ _ _ 0 a b y (e1.trans (Nat.zero_add _).symm) e2 ?_ ?_)
        all_goals
          intro r k z hz
          pointwise
          blk_point []
    · intro j
      canon_tiles x e
      · obtain ⟨a, b, rfl⟩ : ∃ (a : Fin 1024) (b : Fin 256), x = ix2 a b := ⟨x 0, x 1, eq_ix2 x⟩
        refine (chunk3 x1 x3 _ _ a b).trans (chunk_head x1 x2 x3 _ _ 768 _ 3 rfl a b j e0 e1 ?_ ?_)
        all_goals
          intro l k z hz
          pointwise
          blk_point []
      · obtain ⟨a, b, rfl⟩ : ∃ (a : Fin 1024) (b : Fin 256), x = ix2 a b := ⟨x 0, x 1, eq_ix2 x⟩
        refine (chunk2 x1 x3 _ _ a b).trans (chunk_head x1 x2 x3 _ _ 512 _ 2 rfl a b j e0 e1 ?_ ?_)
        all_goals
          intro l k z hz
          pointwise
          blk_point []
      · obtain ⟨a, b, rfl⟩ : ∃ (a : Fin 1024) (b : Fin 256), x = ix2 a b := ⟨x 0, x 1, eq_ix2 x⟩
        refine (chunk1 x1 x3 _ _ a b).trans (chunk_head x1 x2 x3 _ _ 256 _ 1 rfl a b j e0 e1 ?_ ?_)
        all_goals
          intro l k z hz
          pointwise
          blk_point []
      · obtain ⟨a, b, rfl⟩ : ∃ (a : Fin 1024) (b : Fin 256), x = ix2 a b := ⟨x 0, x 1, eq_ix2 x⟩
        refine (chunk0 x1 x3 _ _ a b).trans (chunk_head x1 x2 x3 _ _ 0 _ 0 rfl a b j e0 (e1.trans (Nat.zero_add _).symm) ?_ ?_)
        all_goals
          intro l k z hz
          pointwise
          blk_point []
  all_goals (blk_simp [idx_val t] <;> try omega)

end Point

end Cert.CrossIdeal.Hand

end
-- ==== Proof.Cross.Pre.lean ====
module

public import proofs.«01_k».proof.Proof.Gen.Pre_finite_scores
public import proofs.«01_k».proof.Proof.Att.Pre
public import Idealize.ShloMosaic.Lib.Pipeline.ValueKit

@[expose] public section

set_option maxRecDepth 16384

noncomputable section

namespace Cert.Attention

open Idealize.ShloMosaic Idealize.ShloMosaic.Tactic
open Idealize.ShloMosaic.ValueKit

instance : Subsingleton Cert.Pre_finite_scores.S_.Idx := ⟨fun a b => by funext i; exact i.elim0⟩

/-- An element of the keys' half. -/
theorem key_at (kv : FVec Ideal Cert.Pre_finite_scores.S32x256x2048 .f32) (b : Fin 32) (j : Fin 256) (c : Fin 1024) :
    extractStridedSlice Cert.Pre_finite_scores.S32x256x1024 ![0, 0, 0] kv Cert.Pre_finite_scores.Gen.slices_S32x256x2048_S32x256x1024_0_0_0 (ix3 b j c)
      = kv (ix3 b j ⟨c, by omega⟩) := by
  pointwise

/-- The precondition says that every row, every key and every query weight is a real number. -/
theorem finite_scores_real (x : FVec Ideal Cert.Pre_finite_scores.S32x2048x1024 .f32) (kv : FVec Ideal Cert.Pre_finite_scores.S32x256x2048 .f32)
    (wq wo : FVec Ideal Cert.Pre_finite_scores.S1024x1024 .f32) (w b : FVec Ideal Cert.Pre_finite_scores.S1024 .f32)
    (h : Cert.Pre_finite_scores.fn (F := Ideal) x kv wq wo w b = fun _ => 1#1) :
    (∀ i, (((x i : EReal).toReal : ℝ) : EReal) = x i)
      ∧ (∀ (b : Fin 32) (j : Fin 256) (c : Fin 1024),
          (((kv (ix3 b j ⟨c, by omega⟩) : EReal).toReal : ℝ) : EReal) = kv (ix3 b j ⟨c, by omega⟩))
      ∧ ∀ i, (((wq i : EReal).toReal : ℝ) : EReal) = wq i := by
  have h0 := congrFun h (Shape.Idx.first Cert.Pre_finite_scores.Gen.h_S_)
  have h1 := IntOp.andi_eq_one.1 h0
  have h2 := IntOp.andi_eq_one.1 h1.1
  exact ⟨fun i => real_of_cmp ofBits_pos_inf (Host.reduce_andi_all _ _ _ _ _ h2.1 i),
    fun b j c => by
      have e := key_at kv b j c
      rw [← e]
      exact real_of_cmp ofBits_pos_inf (Host.reduce_andi_all _ _ _ _ _ h2.2 (ix3 b j c)),
    fun i => real_of_cmp ofBits_pos_inf (Host.reduce_andi_all _ _ _ _ _ h1.2 i)⟩

end Cert.Attention

end
-- ==== Proof.CrossClaim.lean ====
module

public import proofs.«01_k».proof.Defs
public import proofs.«01_k».proof.Proof.Gen.CrossIdeal.Value
public import proofs.«01_k».proof.Proof.Cross.Final
public import proofs.«01_k».proof.Proof.Cross.Pre
public import Idealize.ShloMosaic.Lib.Quiescent

@[expose] public section

noncomputable section

namespace Cert.Proof

open Idealize.ShloMosaic Idealize.SL Idealize.SL.Sem

/-- The reference of the attention over the text leaves its arguments alone and every counter at zero. -/
theorem crossRef_frame : Cert.quiescent_CrossRefIdeal := fun m ρ _ =>
  (θ_run _ _ _).mono (fun r h => ⟨fun c => (h c).2.2, Idealize.ShloMosaic.sem_eq_zero_of_no_sems (by decide) r.2⟩)
    (Cert.CrossRefIdeal.Value.run (F := Ideal) m ρ)

/-- The attention over the text: kernel and reference leave the same two arrays where the rows, the keys and the query
    weights are finite. -/
theorem cross_algebraic : Cert.algebraic_CrossIdeal_CrossRefIdeal_pre_finite_scores := by
  intro m ρ m' ρ' hpre hagree
  have hs := fun c => Cert.CrossRefIdeal.Hand.scores_real _ _ _ _ _ _
    (fun i => ((Cert.Attention.finite_scores_real _ _ _ _ _ _ (hpre c)).1 i).symm)
    (fun i => ((Cert.Attention.finite_scores_real _ _ _ _ _ _ (hpre c)).2.2 i).symm)
    (fun b j k => ((Cert.Attention.finite_scores_real _ _ _ _ _ _ (hpre c)).2.1 b j k).symm)
  refine ⟨_, _, Cert.CrossIdeal.Value.run_blocks m ρ, (θ_run _ _ _).mono (fun _ h c => ⟨(h.1 c).1.trans ?_, (h.1 c).2.trans ?_, (h.2 c).2.2⟩)
    (θ_run_and (Cert.CrossRefIdeal.Hand.run_at m' ρ') (Cert.CrossRefIdeal.Value.run (F := Ideal) m' ρ'))⟩
  · obtain ⟨e0, e1, e2, e3, e4, e5⟩ := hagree c
    rw [Cert.CrossIdeal.Hand.final7 m c (hs c), e0, e1, e2, e3, e4, e5]
  · obtain ⟨e0, e1, e2, e3, e4, e5⟩ := hagree c
    rw [Cert.CrossIdeal.Hand.final8 m c (hs c), e0, e1, e2, e3, e4, e5]

end Cert.Proof

end
-- ==== Proof.Mid.Ref.lean ====
module

public import proofs.«01_k».proof.Proof.Gen.MidRefIdeal.Run
public import proofs.«01_k».proof.Proof.Cross.Ref

@[expose] public section

set_option maxRecDepth 16384

noncomputable section

namespace Cert.MidRefIdeal.Hand

open Cert.MidRefIdeal Cert.MidRefIdeal.Gen
open Idealize.ShloMosaic Idealize.ShloMosaic.TcCoe Idealize.ShloMosaic.Tactic
open Idealize.SL Idealize.SL.Sem
open Idealize.ShloMosaic.ValueKit
open Cert.Norm
open Cert.CrossRefIdeal.Hand (layerNorm)

/-- The activation of a number, by the hyperbolic tangent of a cubic. -/
def act (s : EReal) : EReal :=
  Ideal.ofBits .f32 0x3F000000#32 * s * (Ideal.ofBits .f32 0x3F800000#32 + Ideal.tanh (Ideal.ofBits .f32 0x3F4C422A#32 * (s + Ideal.ofBits .f32 0x3D372713#32 * (s * s * s))))

/-- A number times its sigmoid. -/
def selfGate (s : EReal) : EReal :=
  s * Ideal.div (Ideal.ofBits .f32 0x3F800000#32) (Ideal.ofBits .f32 0x3F800000#32 + Ideal.exp (0 - s))

/-- Every row times the input matrix: the four parts side by side. -/
def inner (x : FVec Ideal S32x2048x1024 .f32) (w : FVec Ideal S1024x4096 .f32) : FVec Ideal S32x2048x4096 .f32 :=
  Host.dotGeneral dot_S32x2048x1024_S1024x4096_S32x2048x4096_2_0_01_1_n_n none x w

/-- The first part by heads, narrowed. -/
def values (u : FVec Ideal S32x2048x4096 .f32) : FVec Ideal S32x8x2048x128 .bf16 :=
  truncf .bf16 (transpose S32x8x2048x128 [0, 2, 1, 3] (shapeCast S32x2048x8x128 (extractStridedSlice S32x2048x1024 ![0, 0, 0] u slices_S32x2048x4096_S32x2048x1024_0_0_0) shapeCasts_S32x2048x1024_S32x2048x8x128) transposes_S32x2048x8x128_S32x8x2048x128_0_2_1_3) bitsLt_bf16_f32

/-- The second part times its sigmoid, narrowed. -/
def selfGated (u : FVec Ideal S32x2048x4096 .f32) : FVec Ideal S32x2048x1024 .bf16 :=
  truncf .bf16 (mulf (extractStridedSlice S32x2048x1024 ![0, 0, 1024] u slices_S32x2048x4096_S32x2048x1024_0_0_1024) (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (extractStridedSlice S32x2048x1024 ![0, 0, 1024] u slices_S32x2048x4096_S32x2048x1024_0_0_1024)))))) bitsLt_bf16_f32

/-- The activation of every element. -/
def activated (s : FVec Ideal S32x2048x1024 .f32) : FVec Ideal S32x2048x1024 .f32 :=
  mulf s (mulf (broadcastInDim S32x2048x1024 ![] bcast_S_S32x2048x1024 (constant S_ .f32 0x3F000000#32)) (addf (broadcastInDim S32x2048x1024 ![] bcast_S_S32x2048x1024 (constant S_ .f32 0x3F800000#32)) (Host.tanh (mulf (broadcastInDim S32x2048x1024 ![] bcast_S_S32x2048x1024 (constant S_ .f32 0x3F4C422A#32)) (addf s (mulf (broadcastInDim S32x2048x1024 ![] bcast_S_S32x2048x1024 (constant S_ .f32 0x3D372713#32)) (mulf (mulf s s) s)))))))

/-- The third part. -/
def third (u : FVec Ideal S32x2048x4096 .f32) : FVec Ideal S32x2048x1024 .f32 :=
  extractStridedSlice S32x2048x1024 ![0, 0, 2048] u slices_S32x2048x4096_S32x2048x1024_0_0_2048

/-- The fourth part. -/
def fourth (u : FVec Ideal S32x2048x4096 .f32) : FVec Ideal S32x2048x1024 .f32 :=
  extractStridedSlice S32x2048x1024 ![0, 0, 3072] u slices_S32x2048x4096_S32x2048x1024_0_0_3072

/-- Every block of 128 rows mixed by its column group's matrix, with the group's biases. -/
def mixed (v : FVec Ideal S32x2048x1024 .f32) (ws : FVec Ideal S4x128x128 .f32) (sb : FVec Ideal S4x128 .f32) : FVec Ideal S32x2048x1024 .f32 :=
  shapeCast S32x2048x1024 (addf (transpose S32x16x128x4x256 [1, 2, 4, 0, 3] (Host.dotGeneral dot_S32x16x128x4x256_S4x128x128_S4x32x16x256x128_2_2_014_1_3_0 none (shapeCast S32x16x128x4x256 v shapeCasts_S32x2048x1024_S32x16x128x4x256) ws) transposes_S4x32x16x256x128_S32x16x128x4x256_1_2_4_0_3) (broadcastInDim S32x16x128x4x256 ![0, 1, 2, 3, 4] bcast_S1x1x128x4x1_S32x16x128x4x256_0_1_2_3_4 (broadcastInDim S1x1x128x4x1 ![2, 3, 4] bcast_S128x4x1_S1x1x128x4x1_2_3_4 (broadcastInDim S128x4x1 ![0, 1] bcast_S128x4_S128x4x1_0_1 (transpose S128x4 [1, 0] sb transposes_S4x128_S128x4_1_0))))) shapeCasts_S32x16x128x4x256_S32x2048x1024

/-- The normed, activated fourth part. -/
def normed (u : FVec Ideal S32x2048x4096 .f32) (w b : FVec Ideal S1024 .f32) : FVec Ideal S32x2048x1024 .f32 :=
  layerNorm (activated (fourth u)) w b

/-- The spatial gating: the activated third part times the mixed fourth, narrowed. -/
def gated (u : FVec Ideal S32x2048x4096 .f32) (w b : FVec Ideal S1024 .f32) (ws : FVec Ideal S4x128x128 .f32) (sb : FVec Ideal S4x128 .f32) :
    FVec Ideal S32x2048x1024 .bf16 :=
  truncf .bf16 (mulf (activated (third u)) (mixed (normed u w b) ws sb)) bitsLt_bf16_f32

theorem inner_apply (x : FVec Ideal S32x2048x1024 .f32) (w : FVec Ideal S1024x4096 .f32) (n : Fin 32) (p : Fin 2048) (j : Fin 4096) :
    inner x w (ix3 n p j) = ∑ k, x (ix3 n p k) * w (ix2 k j) := by
  pointwise [inner]

theorem values_apply (u : FVec Ideal S32x2048x4096 .f32) (n : Fin 32) (h : Fin 8) (p : Fin 2048) (e : Fin 128) (z : Fin 4096) (hz : (z : ℕ) = h * 128 + e) :
    values u (ix4 n h p e) = u (ix3 n p z) := by
  have ez : z = ⟨(h : ℕ) * 128 + e, by clear hz; omega⟩ := Fin.ext hz
  rw [ez]
  pointwise [values]

theorem selfGated_apply (u : FVec Ideal S32x2048x4096 .f32) (n : Fin 32) (p : Fin 2048) (d : Fin 1024) (z : Fin 4096) (hz : (z : ℕ) = 1024 + d) :
    selfGated u (ix3 n p d) = selfGate (u (ix3 n p z)) := by
  have ez : z = ⟨1024 + (d : ℕ), by clear hz; omega⟩ := Fin.ext hz
  rw [ez, selfGate, zero_sub]
  pointwise [selfGated]

theorem activated_apply (s : FVec Ideal S32x2048x1024 .f32) (n : Fin 32) (p : Fin 2048) (d : Fin 1024) :
    activated s (ix3 n p d) = act (s (ix3 n p d)) := by
  have h : activated s (ix3 n p d) = s (ix3 n p d) * (Ideal.ofBits .f32 0x3F000000#32 * (Ideal.ofBits .f32 0x3F800000#32
      + Ideal.tanh (Ideal.ofBits .f32 0x3F4C422A#32 * (s (ix3 n p d) + Ideal.ofBits .f32 0x3D372713#32 * (s (ix3 n p d) * s (ix3 n p d) * s (ix3 n p d)))))) := by
    pointwise [activated]
  rw [h, act, ← mul_assoc, mul_comm (s (ix3 n p d)) (Ideal.ofBits .f32 0x3F000000#32)]

theorem third_apply (u : FVec Ideal S32x2048x4096 .f32) (n : Fin 32) (p : Fin 2048) (d : Fin 1024) (z : Fin 4096) (hz : (z : ℕ) = 2048 + d) :
    third u (ix3 n p d) = u (ix3 n p z) := by
  have ez : z = ⟨2048 + (d : ℕ), by clear hz; omega⟩ := Fin.ext hz
  rw [ez]
  pointwise [third]

theorem fourth_apply (u : FVec Ideal S32x2048x4096 .f32) (n : Fin 32) (p : Fin 2048) (d : Fin 1024) (z : Fin 4096) (hz : (z : ℕ) = 3072 + d) :
    fourth u (ix3 n p d) = u (ix3 n p z) := by
  have ez : z = ⟨3072 + (d : ℕ), by clear hz; omega⟩ := Fin.ext hz
  rw [ez]
  pointwise [fourth]

theorem mixed_apply (v : FVec Ideal S32x2048x1024 .f32) (ws : FVec Ideal S4x128x128 .f32) (sb : FVec Ideal S4x128 .f32) (n : Fin 32) (Q : Fin 16)
    (q : Fin 128) (g : Fin 4) (e : Fin 256) :
    mixed v ws sb (ix3 n ⟨Q * 128 + q, by omega⟩ ⟨g * 256 + e, by omega⟩)
      = (∑ j : Fin 128, v (ix3 n ⟨Q * 128 + j, by omega⟩ ⟨g * 256 + e, by omega⟩) * ws (ix3 g q j)) + sb (ix2 g q) := by
  pointwise [mixed]

/-- The normed, activated fourth part at an index. -/
theorem normed_apply (u : FVec Ideal S32x2048x4096 .f32) (w b : FVec Ideal S1024 .f32) (n : Fin 32) (p : Fin 2048) (d : Fin 1024) :
    normed u w b (ix3 n p d) = lnRow (fun k => act (u (ix3 n p ⟨3072 + k, by omega⟩))) (fun k => w (ix1 k)) (fun k => b (ix1 k)) d := by
  rw [normed, Cert.CrossRefIdeal.Hand.layerNorm_apply]
  refine congrArg (fun f => lnRow f _ _ d) (funext fun k => ?_)
  rw [activated_apply, fourth_apply u n p k ⟨3072 + (k : ℕ), by omega⟩ rfl]

/-- The spatial gating at an index. -/
theorem gated_apply (u : FVec Ideal S32x2048x4096 .f32) (w b : FVec Ideal S1024 .f32) (ws : FVec Ideal S4x128x128 .f32) (sb : FVec Ideal S4x128 .f32)
    (i : S32x2048x1024.Idx) : gated u w b ws sb i = activated (third u) i * mixed (normed u w b) ws sb i := rfl

theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = values (inner (m ((c.tc : Thread nD τ).loc main_arg0)) (m ((c.tc : Thread nD τ).loc main_arg1)))
      ∧ r.2.mem ((c.tc : Thread nD τ).loc main_v67) = selfGated (inner (m ((c.tc : Thread nD τ).loc main_arg0)) (m ((c.tc : Thread nD τ).loc main_arg1)))
      ∧ r.2.mem ((c.tc : Thread nD τ).loc main_v70) = gated (inner (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) :=
  (θ_run defs _ _).mono (fun _ h c => ⟨(h c).1.trans (by unfold values inner; rfl), (h c).2.1.trans (by unfold selfGated inner; rfl),
    (h c).2.2.1.trans (by unfold Cert.MidRefIdeal.Value.res_main_v70 gated normed mixed third fourth activated inner layerNorm Cert.CrossRefIdeal.Hand.scaled Cert.CrossRefIdeal.Hand.centred Cert.CrossRefIdeal.Hand.rowMean; rfl)⟩) (Cert.MidRefIdeal.Value.run (F := Ideal) m ρ)

end Cert.MidRefIdeal.Hand
-- ==== Proof.Mid.Block.lean ====
module

public import proofs.«01_k».proof.Proof.Gen.MidIdeal.Skeleton
public import proofs.«01_k».proof.Proof.Gen.MidIdeal.Frame
public import proofs.«01_k».proof.Proof.Mid.Ref
public import proofs.«01_k».proof.Proof.Ffn.Block
public import Idealize.ShloMosaic.Lib.Pipeline.ValueKit

@[expose] public section

set_option maxRecDepth 16384

noncomputable section

namespace Cert.MidIdeal.Hand

open Idealize.ShloMosaic Idealize.ShloMosaic.TcCoe Idealize.SL.Sem
open Idealize.ShloMosaic.Pipeline (Dat)
open Cert.MidIdeal Cert.MidIdeal.Gen
open Cert.Norm
open Cert.MidRefIdeal.Hand (act selfGate)

variable (m : (ℓ : Loc nD τ sig) → Buf (Elt Ideal) ℓ)

/-- An element of a block of rows times the input matrix. -/
def dotAt (x : FVec Ideal S1x1024x1024 .bf16) (w : FVec Ideal S1024x4096 .bf16) (r : Fin 1024) (j : Fin 4096) : EReal :=
  ∑ k : Fin 1024, x (ix3 0 r k) * w (ix2 k j)

/-- What a point's body leaves in its block of values. -/
def valuesBlock (x : FVec Ideal S1x1024x1024 .bf16) (w : FVec Ideal S1024x4096 .bf16) (y : S1x8x1024x128.Idx) : EReal :=
  dotAt x w (y 2) ⟨(y 1 : ℕ) * 128 + (y 3 : ℕ), by have h1 : (y 1 : ℕ) < 8 := (y 1).isLt; have h3 : (y 3 : ℕ) < 128 := (y 3).isLt; omega⟩

/-- What a point's body leaves in its block of the second part. -/
def selfGateBlock (x : FVec Ideal S1x1024x1024 .bf16) (w : FVec Ideal S1024x4096 .bf16) (y : S1x1024x1024.Idx) : EReal :=
  selfGate (dotAt x w (y 1) ⟨1024 + (y 2 : ℕ), by have h2 : (y 2 : ℕ) < 1024 := (y 2).isLt; omega⟩)

/-- The normed, activated fourth part of a block of rows. -/
def normBlock (x : FVec Ideal S1x1024x1024 .bf16) (w : FVec Ideal S1024x4096 .bf16) (nw nb : FVec Ideal S1x1024 .f32) : FVec Ideal S1024x1024 .bf16 :=
  fun y => lnRow (fun l => act (dotAt x w (y 0) ⟨3072 + (l : ℕ), by omega⟩)) (fun k => nw (ix2 0 k)) (fun k => nb (ix2 0 k)) (y 1)

/-- Row `q` of the `Q`-th 128 rows, mixed by group `g`'s matrix, at the group's column `e`. -/
def mixAt (ws : FVec Ideal S4x128x128 .bf16) (sb : FVec Ideal S128x1024 .f32) (h : FVec Ideal S1024x1024 .bf16) (Q : Fin 8) (q : Fin 128) (g : Fin 4)
    (e : Fin 256) : EReal :=
  (∑ j : Fin 128, ws (ix3 g q j) * h (ix2 ⟨(Q : ℕ) * 128 + (j : ℕ), by omega⟩ ⟨(g : ℕ) * 256 + (e : ℕ), by omega⟩)) + sb (ix2 q ⟨(g : ℕ) * 256 + (e : ℕ), by omega⟩)

/-- What a point's body leaves in its block of the spatial gating, from the normed fourth part. -/
def gateBlock (x : FVec Ideal S1x1024x1024 .bf16) (w : FVec Ideal S1024x4096 .bf16) (ws : FVec Ideal S4x128x128 .bf16) (sb : FVec Ideal S128x1024 .f32)
    (h : FVec Ideal S1024x1024 .bf16) (y : S1x1024x1024.Idx) : EReal :=
  act (dotAt x w (y 1) ⟨2048 + (y 2 : ℕ), by have h2 : (y 2 : ℕ) < 1024 := (y 2).isLt; omega⟩)
    * mixAt ws sb h ⟨(y 1 : ℕ) / 128, by have h1 : (y 1 : ℕ) < 1024 := (y 1).isLt; omega⟩ ⟨(y 1 : ℕ) % 128, by omega⟩
        ⟨(y 2 : ℕ) / 256, by have h2 : (y 2 : ℕ) < 1024 := (y 2).isLt; omega⟩ ⟨(y 2 : ℕ) % 256, by omega⟩

/-- The windows' block indices at point `t`: the rows' windows step with the point, the others stay. -/
theorem idx_val : ∀ t : Fin cfg0.N, win0_0.index t = ![t.val / 2, t.val % 2, 0] ∧ win0_1.index t = ![0, 0]
    ∧ win0_2.index t = ![0, 0] ∧ win0_3.index t = ![0, 0] ∧ win0_4.index t = ![0, 0, 0] ∧ win0_5.index t = ![0, 0]
    ∧ win0_6.index t = ![t.val / 2, 0, t.val % 2, 0] ∧ win0_7.index t = ![t.val / 2, t.val % 2, 0] ∧ win0_8.index t = ![t.val / 2, t.val % 2, 0] :=
  (by decide +kernel : ∀ t : Fin grid0.N, _)

/-- An element of the rows' block. -/
theorem rows_at (c : Dev nD) (t : Fin cfg0.N) (r k : Fin 1024) (n : Fin 32) (p : Fin 2048) (hn : (n : ℕ) = t.val / 2) (hp : (p : ℕ) = t.val % 2 * 1024 + r) :
    iblk m c 0 t (ix3 0 r k) = m ((c.tc : Thread nD τ).loc main_arg0) (ix3 n p k) := by
  blk_simp [iblk, idx_val t]
  entry_read
  pointwise
  blk_point [idx_val t]

/-- An element of the input matrix. -/
theorem matrix_at (c : Dev nD) (t : Fin cfg0.N) (k : Fin 1024) (j : Fin 4096) :
    iblk m c 1 t (ix2 k j) = m ((c.tc : Thread nD τ).loc main_arg1) (ix2 k j) := by
  blk_simp [iblk, idx_val t]
  entry_read
  pointwise
  blk_point [idx_val t]

/-- An element of the norm's weights. -/
theorem weight_at (c : Dev nD) (t : Fin cfg0.N) (d : Fin 1024) :
    iblk m c 2 t (ix2 0 d) = m ((c.tc : Thread nD τ).loc main_arg2) (ix1 d) := by
  blk_simp [iblk, idx_val t]
  entry_read
  pointwise
  blk_point [idx_val t]

/-- An element of the norm's biases. -/
theorem bias_at (c : Dev nD) (t : Fin cfg0.N) (d : Fin 1024) :
    iblk m c 3 t (ix2 0 d) = m ((c.tc : Thread nD τ).loc main_arg3) (ix1 d) := by
  blk_simp [iblk, idx_val t]
  entry_read
  pointwise
  blk_point [idx_val t]

/-- An element of the mixing matrices. -/
theorem mix_at (c : Dev nD) (t : Fin cfg0.N) (g : Fin 4) (q j : Fin 128) :
    iblk m c 4 t (ix3 g q j) = m ((c.tc : Thread nD τ).loc main_arg4) (ix3 g q j) := by
  blk_simp [iblk, idx_val t]
  entry_read
  pointwise
  blk_point [idx_val t]

/-- An element of the mixing biases: a group's bias stands in each of its columns. -/
theorem mixBias_at (c : Dev nD) (t : Fin cfg0.N) (q : Fin 128) (g : Fin 4) (e : Fin 256) :
    iblk m c 5 t (ix2 q ⟨g * 256 + e, by omega⟩) = m ((c.tc : Thread nD τ).loc main_arg5) (ix2 g q) := by
  blk_simp [iblk, idx_val t]
  entry_read
  pointwise
  blk_point [idx_val t]

end Cert.MidIdeal.Hand

end
-- ==== Proof.Mid.Final.lean ====
module

public import proofs.«01_k».proof.Proof.Mid.Block

@[expose] public section

set_option maxRecDepth 16384

noncomputable section

namespace Cert.MidIdeal.Hand

open Idealize.ShloMosaic Idealize.ShloMosaic.TcCoe Idealize.SL.Sem
open Idealize.ShloMosaic.Pipeline (Dat)
open Cert.MidIdeal Cert.MidIdeal.Gen
open Cert.Norm
open Cert.FfnIdeal.Hand (readCov_ld canon_ext)
open Cert.MidRefIdeal.Hand (act selfGate inner values selfGated normed mixed gated)

variable (m : (ℓ : Loc nD τ sig) → Buf (Elt Ideal) ℓ)

/-- An element of the rows times the input matrix is the reference's. -/
theorem inner_at (c : Dev nD) (t : Fin cfg0.N) (r : Fin 1024) (n : Fin 32) (p : Fin 2048) (hn : (n : ℕ) = t.val / 2) (hp : (p : ℕ) = t.val % 2 * 1024 + r)
    (j : Fin 4096) :
    dotAt (iblk m c 0 t) (iblk m c 1 t) r j
      = inner (m ((c.tc : Thread nD τ).loc main_arg0)) (m ((c.tc : Thread nD τ).loc main_arg1)) (ix3 n p j) := by
  rw [Cert.MidRefIdeal.Hand.inner_apply]
  exact Finset.sum_congr rfl fun k _ => congrArg₂ (fun a b : EReal => a * b) (rows_at m c t r k n p hn hp) (matrix_at m c t k j)

/-- An element of the normed, activated fourth part is the reference's. -/
theorem norm_at (c : Dev nD) (t : Fin cfg0.N) (r : Fin 1024) (n : Fin 32) (p : Fin 2048) (hn : (n : ℕ) = t.val / 2) (hp : (p : ℕ) = t.val % 2 * 1024 + r)
    (d : Fin 1024) :
    normBlock (iblk m c 0 t) (iblk m c 1 t) (iblk m c 2 t) (iblk m c 3 t) (ix2 r d)
      = normed (inner (m ((c.tc : Thread nD τ).loc main_arg0)) (m ((c.tc : Thread nD τ).loc main_arg1))) (m ((c.tc : Thread nD τ).loc main_arg2)) (m ((c.tc : Thread nD τ).loc main_arg3)) (ix3 n p d) := by
  rw [Cert.MidRefIdeal.Hand.normed_apply, normBlock]
  refine congr (congr (congr (congrArg lnRow (funext fun l => congrArg act (inner_at m c t r n p hn hp _))) (funext fun k => weight_at m c t k)) (funext fun k => bias_at m c t k)) rfl

/-- A mixed element is the reference's. -/
theorem mix_point (c : Dev nD) (t : Fin cfg0.N) (n : Fin 32) (hn : (n : ℕ) = t.val / 2) (Q : Fin 8) (P : Fin 16) (hP : (P : ℕ) = t.val % 2 * 8 + Q)
    (q : Fin 128) (g : Fin 4) (e : Fin 256) :
    mixAt (iblk m c 4 t) (iblk m c 5 t) (normBlock (iblk m c 0 t) (iblk m c 1 t) (iblk m c 2 t) (iblk m c 3 t)) Q q g e
      = mixed (normed (inner (m ((c.tc : Thread nD τ).loc main_arg0)) (m ((c.tc : Thread nD τ).loc main_arg1))) (m ((c.tc : Thread nD τ).loc main_arg2)) (m ((c.tc : Thread nD τ).loc main_arg3)))
          (m ((c.tc : Thread nD τ).loc main_arg4)) (m ((c.tc : Thread nD τ).loc main_arg5)) (ix3 n ⟨P * 128 + q, by omega⟩ ⟨g * 256 + e, by omega⟩) := by
  rw [Cert.MidRefIdeal.Hand.mixed_apply, mixAt]
  refine congrArg₂ (fun a b : EReal => a + b) (Finset.sum_congr rfl fun j _ => ?_) (mixBias_at m c t q g e)
  rw [mul_comm]
  exact congrArg₂ (fun a b : EReal => a * b) (norm_at m c t _ n _ hn (by simp only; omega) _) (mix_at m c t g q j)

/-- What the body leaves of the values at block index `y` of point `t` is the reference at the array index `y` sits at. -/
theorem values_point (c : Dev nD) (t : Fin cfg0.N) (y : S1x8x1024x128.Idx) (z : Cert.MidRefIdeal.S32x8x2048x128.Idx)
    (h0 : (z 0 : ℕ) = t.val / 2) (h1 : (z 1 : ℕ) = y 1) (h2 : (z 2 : ℕ) = t.val % 2 * 1024 + y 2) (h3 : (z 3 : ℕ) = y 3) :
    valuesBlock (iblk m c 0 t) (iblk m c 1 t) y = values (inner (m ((c : Thread nD τ).loc main_arg0)) (m ((c : Thread nD τ).loc main_arg1))) z := by
  have ez : z = ix4 (z 0 : Fin 32) (z 1 : Fin 8) (z 2 : Fin 2048) (z 3 : Fin 128) := eq_ix4 z
  exact ((inner_at m c t (y 2) (z 0) (z 2) h0 h2 _).trans
    (Cert.MidRefIdeal.Hand.values_apply _ (z 0) (z 1) (z 2) (z 3) _ (by simp only; omega)).symm).trans (congrArg _ ez.symm)

/-- What the body leaves of the second part at block index `y` of point `t` is the reference at the array index `y` sits at. -/
theorem selfGate_point (c : Dev nD) (t : Fin cfg0.N) (y : S1x1024x1024.Idx) (z : Cert.MidRefIdeal.S32x2048x1024.Idx)
    (h0 : (z 0 : ℕ) = t.val / 2) (h1 : (z 1 : ℕ) = t.val % 2 * 1024 + y 1) (h2 : (z 2 : ℕ) = y 2) :
    selfGateBlock (iblk m c 0 t) (iblk m c 1 t) y = selfGated (inner (m ((c : Thread nD τ).loc main_arg0)) (m ((c : Thread nD τ).loc main_arg1))) z := by
  have ez : z = ix3 (z 0 : Fin 32) (z 1 : Fin 2048) (z 2 : Fin 1024) := eq_ix3 z
  exact ((congrArg selfGate (inner_at m c t (y 1) (z 0) (z 1) h0 h1 _)).trans
    (Cert.MidRefIdeal.Hand.selfGated_apply _ (z 0) (z 1) (z 2) _ (by simp only; omega)).symm).trans (congrArg _ ez.symm)

/-- What the body leaves of the spatial gating at block index `y` of point `t` is the reference at the array index `y` sits at. -/
theorem gate_point (c : Dev nD) (t : Fin cfg0.N) (y : S1x1024x1024.Idx) (z : Cert.MidRefIdeal.S32x2048x1024.Idx)
    (h0 : (z 0 : ℕ) = t.val / 2) (h1 : (z 1 : ℕ) = t.val % 2 * 1024 + y 1) (h2 : (z 2 : ℕ) = y 2) :
    gateBlock (iblk m c 0 t) (iblk m c 1 t) (iblk m c 4 t) (iblk m c 5 t) (normBlock (iblk m c 0 t) (iblk m c 1 t) (iblk m c 2 t) (iblk m c 3 t)) y
      = gated (inner (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) z := by
  have l1 : (y 1 : ℕ) < 1024 := (y 1).isLt
  have l2 : (y 2 : ℕ) < 1024 := (y 2).isLt
  have ez : z = ix3 (z 0 : Fin 32) (z 1 : Fin 2048) (z 2 : Fin 1024) := eq_ix3 z
  have ep : z = ix3 (z 0 : Fin 32) (⟨(t.val % 2 * 8 + (y 1 : ℕ) / 128) * 128 + (y 1 : ℕ) % 128, by omega⟩ : Fin 2048)
      (⟨(y 2 : ℕ) / 256 * 256 + (y 2 : ℕ) % 256, by omega⟩ : Fin 1024) :=
    ez.trans (congrArg₂ (ix3 (z 0 : Fin 32)) (Fin.ext (by simp only; omega)) (Fin.ext (by simp only; omega)))
  refine congrArg₂ (fun a b : EReal => a * b) ?_ ?_
  · exact ((congrArg act (inner_at m c t (y 1) (z 0) (z 1) h0 h1 _)).trans
      (((Cert.MidRefIdeal.Hand.activated_apply _ (z 0) (z 1) (z 2)).trans
        (congrArg act (Cert.MidRefIdeal.Hand.third_apply _ (z 0) (z 1) (z 2) _ (by simp only; omega)))).symm)).trans (congrArg _ ez.symm)
  · exact (mix_point m c t (z 0) h0 ⟨(y 1 : ℕ) / 128, by omega⟩ ⟨t.val % 2 * 8 + (y 1 : ℕ) / 128, by omega⟩ rfl _ _ _).trans (congrArg _ ep.symm)

/-- The first result array after the run is the reference's. -/
theorem final6 (c : Dev nD) : (dats m 0 c).arrAt 6 (cfgs 0).N
    = values (inner (m ((c : Thread nD τ).loc main_arg0)) (m ((c : Thread nD τ).loc main_arg1))) := by
  refine (dats m 0 c).arrAt_eq_of_covers 6 _ (by decide +kernel) fun t hf y => ?_
  blk_simp; rw [after0_6]; unfold outsAt0; frame_out
  refine Eq.trans (b := valuesBlock (iblk m c 0 t) (iblk m c 1 t) y) ?_ (values_point m c t y _ ?_ ?_ ?_ ?_)
  · generalize iblk m c 0 t = x0
    generalize iblk m c 1 t = x1
    canon_tiles x e
    all_goals
      open_payloads
      pointwise [valuesBlock, dotAt]
      blk_point []
  all_goals (blk_simp [idx_val t] <;> try omega)

/-- The second result array after the run is the reference's. -/
theorem final7 (c : Dev nD) : (dats m 0 c).arrAt 7 (cfgs 0).N
    = selfGated (inner (m ((c : Thread nD τ).loc main_arg0)) (m ((c : Thread nD τ).loc main_arg1))) := by
  refine (dats m 0 c).arrAt_eq_of_covers 7 _ (by decide +kernel) fun t hf y => ?_
  blk_simp; rw [after0_7]; unfold outsAt0; frame_out
  refine Eq.trans (b := selfGateBlock (iblk m c 0 t) (iblk m c 1 t) y) ?_ (selfGate_point m c t y _ ?_ ?_ ?_)
  · generalize iblk m c 0 t = x0
    generalize iblk m c 1 t = x1
    canon_tiles x e
    all_goals
      open_payloads
      pointwise [selfGateBlock, selfGate, dotAt]
      blk_point []
  all_goals (blk_simp [idx_val t] <;> try omega)

/-- The third result array after the run is the reference's. -/
theorem final8 (c : Dev nD) : (dats m 0 c).arrAt 8 (cfgs 0).N
    = gated (inner (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp; rw [after0_8]; unfold outsAt0; frame_out
  refine Eq.trans (b := gateBlock (iblk m c 0 t) (iblk m c 1 t) (iblk m c 4 t) (iblk m c 5 t) (normBlock (iblk m c 0 t) (iblk m c 1 t) (iblk m c 2 t) (iblk m c 3 t)) y) ?_ (gate_point m c t y _ ?_ ?_ ?_)
  · generalize iblk m c 0 t = x0
    generalize iblk m c 1 t = x1
    generalize iblk m c 2 t = x2
    generalize iblk m c 3 t = x3
    generalize iblk m c 4 t = x4
    generalize iblk m c 5 t = x5
    simp only [readCov_ld]
    rw [canon_ext (s := S1024x1024) _ (normBlock x0 x1 x2 x3)]
    · generalize normBlock x0 x1 x2 x3 = h
      canon_tiles x e
      all_goals
        open_payloads
        pointwise [gateBlock, mixAt, dotAt, act]
        blk_point []
    · intro j
      canon_tiles x e
      all_goals
        open_payloads
        pointwise [normBlock, lnRow, mean, dotAt, act]
        blk_point []
  all_goals (blk_simp [idx_val t] <;> try omega)

end Cert.MidIdeal.Hand

end
-- ==== Proof.MidClaim.lean ====
module

public import proofs.«01_k».proof.Defs
public import proofs.«01_k».proof.Proof.Gen.MidIdeal.Value
public import proofs.«01_k».proof.Proof.Mid.Final
public import Idealize.ShloMosaic.Lib.Quiescent

@[expose] public section

noncomputable section

namespace Cert.Proof

open Idealize.ShloMosaic Idealize.SL Idealize.SL.Sem

/-- The reference of the middle projections leaves its arguments alone and every counter at zero. -/
theorem midRef_frame : Cert.quiescent_MidRefIdeal := fun m ρ _ =>
  (θ_run _ _ _).mono (fun r h => ⟨fun c => (h c).2.2.2, Idealize.ShloMosaic.sem_eq_zero_of_no_sems (by decide) r.2⟩)
    (Cert.MidRefIdeal.Value.run (F := Ideal) m ρ)

/-- The middle projections: kernel and reference leave the same three arrays. -/
theorem mid_algebraic : Cert.algebraic_MidIdeal_MidRefIdeal := by
  intro m ρ m' ρ' _ hagree
  refine ⟨_, _, _, Cert.MidIdeal.Value.run_blocks m ρ, (θ_run _ _ _).mono (fun _ h c => ⟨(h.1 c).1.trans ?_, (h.1 c).2.1.trans ?_, (h.1 c).2.2.trans ?_, (h.2 c).2.2.2⟩)
    (θ_run_and (Cert.MidRefIdeal.Hand.run_at m' ρ') (Cert.MidRefIdeal.Value.run (F := Ideal) m' ρ'))⟩
  · rw [Cert.MidIdeal.Hand.final6 m c, (hagree c).1, (hagree c).2.1]
  · rw [Cert.MidIdeal.Hand.final7 m c, (hagree c).1, (hagree c).2.1]
  · rw [Cert.MidIdeal.Hand.final8 m c, (hagree c).1, (hagree c).2.1, (hagree c).2.2.1, (hagree c).2.2.2.1, (hagree c).2.2.2.2.1, (hagree c).2.2.2.2.2]

end Cert.Proof

end
-- ==== Proof.Rot.Ref.lean ====
module

public import proofs.«01_k».proof.Proof.Gen.RotRefIdeal.Run
public import Idealize.ShloMosaic.Lib.Pointwise
public import Idealize.ShloMosaic.Lib.Pipeline.ValueKit

@[expose] public section

set_option maxRecDepth 16384

noncomputable section

namespace Cert.RotRefIdeal.Hand

open Cert.RotRefIdeal Cert.RotRefIdeal.Gen
open Idealize.ShloMosaic Idealize.ShloMosaic.TcCoe Idealize.ShloMosaic.Tactic
open Idealize.SL Idealize.SL.Sem
open Idealize.ShloMosaic.ValueKit

/-- The rotation's angles: the row's number times the column's frequency. -/
def angles : FVec Ideal S2048x64 .f32 :=
  mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32))))))

/-- Every row times the weights: the queries and the keys side by side. -/
def inner (x : FVec Ideal S32x2048x1024 .f32) (w : FVec Ideal S1024x2048 .f32) : FVec Ideal S32x2048x2048 .f32 :=
  Host.dotGeneral dot_S32x2048x1024_S1024x2048_S32x2048x2048_2_0_01_1_n_n none x w

/-- The queries by heads. -/
def queryHeads (u : FVec Ideal S32x2048x2048 .f32) : FVec Ideal S32x8x2048x128 .f32 :=
  transpose S32x8x2048x128 [0, 2, 1, 3] (shapeCast S32x2048x8x128 (extractStridedSlice S32x2048x1024 ![0, 0, 0] u slices_S32x2048x2048_S32x2048x1024_0_0_0) shapeCasts_S32x2048x1024_S32x2048x8x128) transposes_S32x2048x8x128_S32x8x2048x128_0_2_1_3

/-- The keys by heads. -/
def keyHeads (u : FVec Ideal S32x2048x2048 .f32) : FVec Ideal S32x8x2048x128 .f32 :=
  transpose S32x8x2048x128 [0, 2, 1, 3] (shapeCast S32x2048x8x128 (extractStridedSlice S32x2048x1024 ![0, 0, 1024] u slices_S32x2048x2048_S32x2048x1024_0_0_1024) shapeCasts_S32x2048x1024_S32x2048x8x128) transposes_S32x2048x8x128_S32x8x2048x128_0_2_1_3

/-- Each row of each head turned by its angles: the two halves of the row are the two coordinates. -/
def rotated (h : FVec Ideal S32x8x2048x128 .f32) : FVec Ideal S32x8x2048x128 .f32 :=
  concatenate S32x8x2048x128 3 [⟨S32x8x2048x64, (subf (mulf (extractStridedSlice S32x8x2048x64 ![0, 0, 0, 0] h slices_S32x8x2048x128_S32x8x2048x64_0_0_0_0) (broadcastInDim S32x8x2048x64 ![0, 1, 2, 3] bcast_S1x1x2048x64_S32x8x2048x64_0_1_2_3 (broadcastInDim S1x1x2048x64 ![2, 3] bcast_S2048x64_S1x1x2048x64_2_3 (Host.cos angles)))) (mulf (extractStridedSlice S32x8x2048x64 ![0, 0, 0, 64] h slices_S32x8x2048x128_S32x8x2048x64_0_0_0_64) (broadcastInDim S32x8x2048x64 ![0, 1, 2, 3] bcast_S1x1x2048x64_S32x8x2048x64_0_1_2_3 (broadcastInDim S1x1x2048x64 ![2, 3] bcast_S2048x64_S1x1x2048x64_2_3 (Host.sin angles)))))⟩, ⟨S32x8x2048x64, (addf (mulf (extractStridedSlice S32x8x2048x64 ![0, 0, 0, 0] h slices_S32x8x2048x128_S32x8x2048x64_0_0_0_0) (broadcastInDim S32x8x2048x64 ![0, 1, 2, 3] bcast_S1x1x2048x64_S32x8x2048x64_0_1_2_3 (broadcastInDim S1x1x2048x64 ![2, 3] bcast_S2048x64_S1x1x2048x64_2_3 (Host.sin angles)))) (mulf (extractStridedSlice S32x8x2048x64 ![0, 0, 0, 64] h slices_S32x8x2048x128_S32x8x2048x64_0_0_0_64) (broadcastInDim S32x8x2048x64 ![0, 1, 2, 3] bcast_S1x1x2048x64_S32x8x2048x64_0_1_2_3 (broadcastInDim S1x1x2048x64 ![2, 3] bcast_S2048x64_S1x1x2048x64_2_3 (Host.cos angles)))))⟩] concatenates_S32x8x2048x64_S32x8x2048x64_S32x8x2048x128_d3

/-- The turned queries, narrowed. -/
def queries (u : FVec Ideal S32x2048x2048 .f32) : FVec Ideal S32x8x2048x128 .bf16 :=
  truncf .bf16 (rotated (queryHeads u)) bitsLt_bf16_f32

/-- The turned keys times the scale, by chunks of 128 rows, each chunk transposed, narrowed. -/
def keys (u : FVec Ideal S32x2048x2048 .f32) : FVec Ideal S32x8x16x128x128 .bf16 :=
  truncf .bf16 (transpose S32x8x16x128x128 [0, 1, 2, 4, 3] (shapeCast S32x8x16x128x128 (mulf (rotated (keyHeads u)) (broadcastInDim S32x8x2048x128 ![] bcast_S_S32x8x2048x128 (constant S_ .f32 0x3DB504F3#32))) shapeCasts_S32x8x2048x128_S32x8x16x128x128) transposes_S32x8x16x128x128_S32x8x16x128x128_0_1_2_4_3) bitsLt_bf16_f32

/-- The factor of a row's own element. -/
def cosAt (p : Fin 2048) (d : Fin 128) : EReal := Ideal.cos (angles (ix2 p ⟨(d : ℕ) % 64, by omega⟩))

/-- The factor of the element half a row away: minus the sine in the first half, the sine in the second. -/
def sinAt (p : Fin 2048) (d : Fin 128) : EReal :=
  if (d : ℕ) < 64 then -Ideal.sin (angles (ix2 p ⟨(d : ℕ) % 64, by omega⟩)) else Ideal.sin (angles (ix2 p ⟨(d : ℕ) % 64, by omega⟩))

/-- The column half a row away. -/
def across (d : Fin 128) : Fin 128 := ⟨((d : ℕ) + 64) % 128, by omega⟩

theorem inner_apply (x : FVec Ideal S32x2048x1024 .f32) (w : FVec Ideal S1024x2048 .f32) (n : Fin 32) (p : Fin 2048) (j : Fin 2048) :
    inner x w (ix3 n p j) = ∑ k, x (ix3 n p k) * w (ix2 k j) := by
  pointwise [inner]

theorem queryHeads_apply (u : FVec Ideal S32x2048x2048 .f32) (n : Fin 32) (g : Fin 8) (p : Fin 2048) (e : Fin 128) (z : Fin 2048) (hz : (z : ℕ) = g * 128 + e) :
    queryHeads u (ix4 n g p e) = u (ix3 n p z) := by
  have ez : z = ⟨(g : ℕ) * 128 + e, by clear hz; omega⟩ := Fin.ext hz
  rw [ez]
  pointwise [queryHeads]

theorem keyHeads_apply (u : FVec Ideal S32x2048x2048 .f32) (n : Fin 32) (g : Fin 8) (p : Fin 2048) (e : Fin 128) (z : Fin 2048) (hz : (z : ℕ) = 1024 + (g * 128 + e)) :
    keyHeads u (ix4 n g p e) = u (ix3 n p z) := by
  have ez : z = ⟨1024 + ((g : ℕ) * 128 + e), by clear hz; omega⟩ := Fin.ext hz
  rw [ez]
  pointwise [keyHeads]

/-- The first half of a turned row. -/
theorem rotated_lo (h : FVec Ideal S32x8x2048x128 .f32) (n : Fin 32) (g : Fin 8) (p : Fin 2048) (d : Fin 64) :
    rotated h (ix4 n g p ⟨d, by omega⟩)
      = h (ix4 n g p ⟨d, by omega⟩) * Ideal.cos (angles (ix2 p d)) - h (ix4 n g p ⟨64 + d, by omega⟩) * Ideal.sin (angles (ix2 p d)) := by
  unfold rotated
  generalize angles = a
  pointwise

/-- The second half of a turned row. -/
theorem rotated_hi (h : FVec Ideal S32x8x2048x128 .f32) (n : Fin 32) (g : Fin 8) (p : Fin 2048) (d : Fin 64) :
    rotated h (ix4 n g p ⟨64 + d, by omega⟩)
      = h (ix4 n g p ⟨d, by omega⟩) * Ideal.sin (angles (ix2 p d)) + h (ix4 n g p ⟨64 + d, by omega⟩) * Ideal.cos (angles (ix2 p d)) := by
  unfold rotated
  generalize angles = a
  pointwise

/-- An element of a turned row: itself and the element half a row away, each times its factor. -/
theorem rotated_apply (h : FVec Ideal S32x8x2048x128 .f32) (n : Fin 32) (g : Fin 8) (p : Fin 2048) (d : Fin 128) :
    rotated h (ix4 n g p d) = h (ix4 n g p d) * cosAt p d + h (ix4 n g p (across d)) * sinAt p d := by
  rcases Nat.lt_or_ge (d : ℕ) 64 with hd | hd
  · have ea : across d = ⟨64 + (d : ℕ), by omega⟩ := Fin.ext (by simp only [across]; omega)
    have em : (⟨(d : ℕ) % 64, by omega⟩ : Fin 64) = ⟨d, hd⟩ := Fin.ext (by simp only; omega)
    rw [ea, cosAt, sinAt, if_pos hd, em, mul_neg, ← sub_eq_add_neg]
    exact rotated_lo h n g p ⟨d, hd⟩
  · have ea : across d = ⟨((d : ℕ) - 64), by omega⟩ := Fin.ext (by simp only [across]; omega)
    have em : (⟨(d : ℕ) % 64, by omega⟩ : Fin 64) = ⟨(d : ℕ) - 64, by omega⟩ := Fin.ext (by simp only; omega)
    have ed : d = ⟨64 + ((d : ℕ) - 64), by omega⟩ := Fin.ext (by simp only; omega)
    rw [ea, cosAt, sinAt, if_neg (by omega), em, add_comm]
    have h2 := rotated_hi h n g p ⟨(d : ℕ) - 64, by omega⟩
    rw [← ed] at h2
    exact h2

/-- A turned query at an index. -/
theorem queries_apply (u : FVec Ideal S32x2048x2048 .f32) (i : S32x8x2048x128.Idx) : queries u i = rotated (queryHeads u) i := rfl

/-- A turned key at an index. -/
theorem keys_apply (u : FVec Ideal S32x2048x2048 .f32) (n : Fin 32) (g : Fin 8) (Q : Fin 16) (e q : Fin 128) :
    keys u (ix5 n g Q e q) = rotated (keyHeads u) (ix4 n g ⟨(Q : ℕ) * 128 + q, by omega⟩ e) * Ideal.ofBits .f32 0x3DB504F3#32 := by
  unfold keys
  generalize rotated (keyHeads u) = r
  pointwise

theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = queries (inner (m ((c.tc : Thread nD τ).loc main_arg0)) (m ((c.tc : Thread nD τ).loc main_arg1)))
      ∧ r.2.mem ((c.tc : Thread nD τ).loc main_v65) = keys (inner (m ((c.tc : Thread nD τ).loc main_arg0)) (m ((c.tc : Thread nD τ).loc main_arg1))) :=
  (θ_run defs _ _).mono (fun _ h c => ⟨(h c).1.trans (by unfold Cert.RotRefIdeal.Value.res_main_v63 queries rotated queryHeads angles inner; rfl),
    (h c).2.1.trans (by unfold Cert.RotRefIdeal.Value.res_main_v65 keys rotated keyHeads angles inner; rfl)⟩) (Cert.RotRefIdeal.Value.run (F := Ideal) m ρ)

end Cert.RotRefIdeal.Hand
-- ==== Proof.Rot.Block.lean ====
module

public import proofs.«01_k».proof.Proof.Gen.RotIdeal.Skeleton
public import proofs.«01_k».proof.Proof.Gen.RotIdeal.Frame
public import proofs.«01_k».proof.Proof.Rot.Ref
public import Idealize.ShloMosaic.Lib.Pipeline.ValueKit

@[expose] public section

set_option maxRecDepth 16384

noncomputable section

namespace Cert.RotIdeal.Hand

open Idealize.ShloMosaic Idealize.ShloMosaic.TcCoe Idealize.SL.Sem
open Idealize.ShloMosaic.Pipeline (Dat)
open Cert.RotIdeal Cert.RotIdeal.Gen
open Cert.RotRefIdeal.Hand (across cosAt sinAt angles)

variable (m : (ℓ : Loc nD τ sig) → Buf (Elt Ideal) ℓ)

/-- An element of a block of rows times the weights. -/
def dotAt (x : FVec Ideal S1x1024x1024 .bf16) (w : FVec Ideal S1024x2048 .bf16) (r : Fin 1024) (j : Fin 2048) : EReal :=
  ∑ k : Fin 1024, x (ix3 0 r k) * w (ix2 k j)

/-- Element `d` of row `r` of head `h`, turned: the 16 heads are the queries' and then the keys'. -/
def turnAt (x : FVec Ideal S1x1024x1024 .bf16) (w : FVec Ideal S1024x2048 .bf16) (cs sn : FVec Ideal S1024x128 .f32) (h : Fin 16) (r : Fin 1024)
    (d : Fin 128) : EReal :=
  dotAt x w r ⟨(h : ℕ) * 128 + (d : ℕ), by omega⟩ * cs (ix2 r d) + dotAt x w r ⟨(h : ℕ) * 128 + (across d : ℕ), by omega⟩ * sn (ix2 r d)

/-- What a point's body leaves in its block of queries. -/
def queryBlock (x : FVec Ideal S1x1024x1024 .bf16) (w : FVec Ideal S1024x2048 .bf16) (cs sn : FVec Ideal S1024x128 .f32) (y : S1x8x1024x128.Idx) : EReal :=
  turnAt x w cs sn ⟨(y 1 : ℕ), by have h1 : (y 1 : ℕ) < 8 := (y 1).isLt; omega⟩ (y 2) (y 3)

/-- What a point's body leaves in its block of keys. -/
def keyBlock (x : FVec Ideal S1x1024x1024 .bf16) (w : FVec Ideal S1024x2048 .bf16) (cs sn : FVec Ideal S1024x128 .f32) (y : S1x8x8x128x128.Idx) : EReal :=
  turnAt x w cs sn ⟨8 + (y 1 : ℕ), by have h1 : (y 1 : ℕ) < 8 := (y 1).isLt; omega⟩
    ⟨(y 2 : ℕ) * 128 + (y 4 : ℕ), by have h2 : (y 2 : ℕ) < 8 := (y 2).isLt; have h4 : (y 4 : ℕ) < 128 := (y 4).isLt; omega⟩ (y 3) * Ideal.ofBits .f32 0x3DB504F3#32

/-- The windows' block indices at point `t`: the rows' windows step with the point, the weights stay, the tables follow the rows. -/
theorem idx_val : ∀ t : Fin cfg0.N, win0_0.index t = ![t.val / 2, t.val % 2, 0] ∧ win0_1.index t = ![0, 0]
    ∧ win0_2.index t = ![t.val % 2, 0] ∧ win0_3.index t = ![t.val % 2, 0]
    ∧ win0_4.index t = ![t.val / 2, 0, t.val % 2, 0] ∧ win0_5.index t = ![t.val / 2, 0, t.val % 2, 0, 0] :=
  (by decide +kernel : ∀ t : Fin grid0.N, _)

/-- An element of the rows' block. -/
theorem rows_at (c : Dev nD) (t : Fin cfg0.N) (r k : Fin 1024) (n : Fin 32) (p : Fin 2048) (hn : (n : ℕ) = t.val / 2) (hp : (p : ℕ) = t.val % 2 * 1024 + r) :
    iblk m c 0 t (ix3 0 r k) = m ((c.tc : Thread nD τ).loc main_arg0) (ix3 n p k) := by
  blk_simp [iblk, idx_val t]
  entry_read
  pointwise
  blk_point [idx_val t]

/-- An element of the weights. -/
theorem matrix_at (c : Dev nD) (t : Fin cfg0.N) (k : Fin 1024) (j : Fin 2048) :
    iblk m c 1 t (ix2 k j) = m ((c.tc : Thread nD τ).loc main_arg1) (ix2 k j) := by
  blk_simp [iblk, idx_val t]
  entry_read
  pointwise
  blk_point [idx_val t]

/-- A table's column is the block's. -/
theorem cos_col (t : Fin cfg0.N) (r : Fin 1024) (d : Fin 128) : (((View.whole main_v21).slice (win0_2.rect t)).emb (ix2 r d) 1 : ℕ) = d := by
  blk_simp [idx_val t]

/-- A table's column is the block's. -/
theorem sin_col (t : Fin cfg0.N) (r : Fin 1024) (d : Fin 128) : (((View.whole main_v23).slice (win0_3.rect t)).emb (ix2 r d) 1 : ℕ) = d := by
  blk_simp [idx_val t]

/-- An element of the first table. -/
theorem cos_at (c : Dev nD) (t : Fin cfg0.N) (r : Fin 1024) (d : Fin 128) (p : Fin 2048) (hp : (p : ℕ) = t.val % 2 * 1024 + r) :
    iblk m c 2 t (ix2 r d) = cosAt p d := by
  have he := cos_col t r d
  blk_simp [iblk, idx_val t]
  entry_read
  pointwise [cosAt, angles]
  blk_point [idx_val t]
  all_goals first | omega | exact congrArg (BitVec.ofNat 32) (by omega)

set_option maxHeartbeats 1000000 in
/-- An element of the second table. -/
theorem sin_at (c : Dev nD) (t : Fin cfg0.N) (r : Fin 1024) (d : Fin 128) (p : Fin 2048) (hp : (p : ℕ) = t.val % 2 * 1024 + r) :
    iblk m c 3 t (ix2 r d) = sinAt p d := by
  have he := sin_col t r d
  rcases Nat.lt_or_ge (d : ℕ) 64 with hd | hd
  · rw [sinAt, if_pos hd]
    blk_simp [iblk, idx_val t]
    entry_read
    pointwise [angles]
    blk_point [idx_val t]
    all_goals first | omega | (exfalso; omega) | exact congrArg (BitVec.ofNat 32) (by omega)
  · rw [sinAt, if_neg (by omega)]
    blk_simp [iblk, idx_val t]
    entry_read
    pointwise [angles]
    blk_point [idx_val t]
    all_goals first | omega | (exfalso; omega) | exact congrArg (BitVec.ofNat 32) (by omega)

end Cert.RotIdeal.Hand

end
-- ==== Proof.Rot.Final.lean ====
module

public import proofs.«01_k».proof.Proof.Rot.Block

@[expose] public section

set_option maxRecDepth 16384

noncomputable section

namespace Cert.RotIdeal.Hand

open Idealize.ShloMosaic Idealize.ShloMosaic.TcCoe Idealize.SL.Sem
open Idealize.ShloMosaic.Pipeline (Dat)
open Cert.RotIdeal Cert.RotIdeal.Gen
open Cert.RotRefIdeal.Hand (across cosAt sinAt inner rotated queryHeads keyHeads queries keys)

variable (m : (ℓ : Loc nD τ sig) → Buf (Elt Ideal) ℓ)

/-- An element of the rows times the weights is the reference's. -/
theorem inner_at (c : Dev nD) (t : Fin cfg0.N) (r : Fin 1024) (n : Fin 32) (p : Fin 2048) (hn : (n : ℕ) = t.val / 2) (hp : (p : ℕ) = t.val % 2 * 1024 + r)
    (j : Fin 2048) :
    dotAt (iblk m c 0 t) (iblk m c 1 t) r j
      = inner (m ((c.tc : Thread nD τ).loc main_arg0)) (m ((c.tc : Thread nD τ).loc main_arg1)) (ix3 n p j) := by
  rw [Cert.RotRefIdeal.Hand.inner_apply]
  exact Finset.sum_congr rfl fun k _ => congrArg₂ (fun a b : EReal => a * b) (rows_at m c t r k n p hn hp) (matrix_at m c t k j)

/-- A turned element is the turned element of any array of heads that holds the same products. -/
theorem turn_at (c : Dev nD) (t : Fin cfg0.N) (h : Fin 16) (r : Fin 1024) (d : Fin 128) (n : Fin 32) (g : Fin 8) (p : Fin 2048)
    (hn : (n : ℕ) = t.val / 2) (hp : (p : ℕ) = t.val % 2 * 1024 + r) (v : FVec Ideal Cert.RotRefIdeal.S32x8x2048x128 .f32)
    (hv : ∀ (e : Fin 128) (z : Fin 2048), (z : ℕ) = (h : ℕ) * 128 + e →
      v (ix4 n g p e) = inner (m ((c.tc : Thread nD τ).loc main_arg0)) (m ((c.tc : Thread nD τ).loc main_arg1)) (ix3 n p z)) :
    turnAt (iblk m c 0 t) (iblk m c 1 t) (iblk m c 2 t) (iblk m c 3 t) h r d = rotated v (ix4 n g p d) := by
  rw [Cert.RotRefIdeal.Hand.rotated_apply]
  exact congrArg₂ (fun a b : EReal => a + b)
    (congrArg₂ (fun a b : EReal => a * b) ((inner_at m c t r n p hn hp _).trans (hv d _ rfl).symm) (cos_at m c t r d p hp))
    (congrArg₂ (fun a b : EReal => a * b) ((inner_at m c t r n p hn hp _).trans (hv (across d) _ rfl).symm) (sin_at m c t r d p hp))

/-- What the body leaves of the queries at block index `y` of point `t` is the reference at the array index `y` sits at. -/
theorem query_point (c : Dev nD) (t : Fin cfg0.N) (y : S1x8x1024x128.Idx) (z : Cert.RotRefIdeal.S32x8x2048x128.Idx)
    (h0 : (z 0 : ℕ) = t.val / 2) (h1 : (z 1 : ℕ) = y 1) (h2 : (z 2 : ℕ) = t.val % 2 * 1024 + y 2) (h3 : (z 3 : ℕ) = y 3) :
    queryBlock (iblk m c 0 t) (iblk m c 1 t) (iblk m c 2 t) (iblk m c 3 t) y
      = queries (inner (m ((c : Thread nD τ).loc main_arg0)) (m ((c : Thread nD τ).loc main_arg1))) z := by
  have ez : z = ix4 (z 0 : Fin 32) (z 1 : Fin 8) (z 2 : Fin 2048) (y 3 : Fin 128) := (eq_ix4 z).trans (congrArg (ix4 (z 0 : Fin 32) (z 1 : Fin 8) (z 2 : Fin 2048)) (Fin.ext h3))
  exact (turn_at m c t _ (y 2) (y 3) (z 0) (z 1) (z 2) h0 h2 (queryHeads _) fun e k hk =>
    Cert.RotRefIdeal.Hand.queryHeads_apply _ (z 0) (z 1) (z 2) e k (by simp only at hk; omega)).trans (congrArg (queries _) ez.symm)

/-- What the body leaves of the keys at block index `y` of point `t` is the reference at the array index `y` sits at. -/
theorem key_point (c : Dev nD) (t : Fin cfg0.N) (y : S1x8x8x128x128.Idx) (z : Cert.RotRefIdeal.S32x8x16x128x128.Idx)
    (h0 : (z 0 : ℕ) = t.val / 2) (h1 : (z 1 : ℕ) = y 1) (h2 : (z 2 : ℕ) = t.val % 2 * 8 + y 2) (h3 : (z 3 : ℕ) = y 3) (h4 : (z 4 : ℕ) = y 4) :
    keyBlock (iblk m c 0 t) (iblk m c 1 t) (iblk m c 2 t) (iblk m c 3 t) y
      = keys (inner (m ((c : Thread nD τ).loc main_arg0)) (m ((c : Thread nD τ).loc main_arg1))) z := by
  have l1 : (y 1 : ℕ) < 8 := (y 1).isLt
  have l2 : (y 2 : ℕ) < 8 := (y 2).isLt
  have l4 : (y 4 : ℕ) < 128 := (y 4).isLt
  have ez : z = ix5 (z 0 : Fin 32) (z 1 : Fin 8) (z 2 : Fin 16) (y 3 : Fin 128) (y 4 : Fin 128) :=
    (eq_ix5 z).trans (congrArg₂ (ix5 (z 0 : Fin 32) (z 1 : Fin 8) (z 2 : Fin 16)) (Fin.ext h3) (Fin.ext h4))
  refine Eq.trans ?_ ((Cert.RotRefIdeal.Hand.keys_apply _ (z 0) (z 1) (z 2) (y 3) (y 4)).symm.trans (congrArg (keys _) ez.symm))
  exact congrArg (fun a : EReal => a * Ideal.ofBits .f32 0x3DB504F3#32)
    (turn_at m c t _ _ (y 3) (z 0) (z 1) _ h0 (by simp only; omega) (keyHeads _) fun e k hk =>
      Cert.RotRefIdeal.Hand.keyHeads_apply _ (z 0) (z 1) _ e k (by simp only at hk; omega))

/-- The first result array after the run is the reference's. -/
theorem final4 (c : Dev nD) : (dats m 0 c).arrAt 4 (cfgs 0).N
    = queries (inner (m ((c : Thread nD τ).loc main_arg0)) (m ((c : Thread nD τ).loc main_arg1))) := by
  refine (dats m 0 c).arrAt_eq_of_covers 4 _ (by decide +kernel) fun t hf y => ?_
  blk_simp; rw [after0_4]; frame_out
  refine Eq.trans (b := queryBlock (iblk m c 0 t) (iblk m c 1 t) (iblk m c 2 t) (iblk m c 3 t) y) ?_ (query_point m c t y _ ?_ ?_ ?_ ?_)
  · generalize iblk m c 0 t = x0
    generalize iblk m c 1 t = x1
    generalize iblk m c 2 t = x2
    generalize iblk m c 3 t = x3
    canon_tiles x e
    all_goals
      open_payloads
      pointwise [queryBlock, turnAt, across, dotAt]
      blk_point []
  all_goals (blk_simp [idx_val t] <;> try omega)

set_option maxHeartbeats 8000000 in
/-- The second result array after the run is the reference's. -/
theorem final5 (c : Dev nD) : (dats m 0 c).arrAt 5 (cfgs 0).N
    = keys (inner (m ((c : Thread nD τ).loc main_arg0)) (m ((c : Thread nD τ).loc main_arg1))) := by
  refine (dats m 0 c).arrAt_eq_of_covers 5 _ (by decide +kernel) fun t hf y => ?_
  blk_simp; rw [after0_5]; frame_out
  refine Eq.trans (b := keyBlock (iblk m c 0 t) (iblk m c 1 t) (iblk m c 2 t) (iblk m c 3 t) y) ?_ (key_point m c t y _ ?_ ?_ ?_ ?_ ?_)
  · generalize iblk m c 0 t = x0
    generalize iblk m c 1 t = x1
    generalize iblk m c 2 t = x2
    generalize iblk m c 3 t = x3
    canon_tiles x e
    all_goals
      open_payloads
      pointwise [keyBlock, turnAt, across, dotAt]
      blk_point []
  all_goals (blk_simp [idx_val t] <;> try omega)

end Cert.RotIdeal.Hand

end
-- ==== Proof.RotClaim.lean ====
module

public import proofs.«01_k».proof.Defs
public import proofs.«01_k».proof.Proof.Gen.RotIdeal.Value
public import proofs.«01_k».proof.Proof.Rot.Final
public import Idealize.ShloMosaic.Lib.Quiescent

@[expose] public section

noncomputable section

namespace Cert.Proof

open Idealize.ShloMosaic Idealize.SL Idealize.SL.Sem

/-- The reference of the retention's projection leaves its arguments alone and every counter at zero. -/
theorem rotRef_frame : Cert.quiescent_RotRefIdeal := fun m ρ _ =>
  (θ_run _ _ _).mono (fun r h => ⟨fun c => (h c).2.2, Idealize.ShloMosaic.sem_eq_zero_of_no_sems (by decide) r.2⟩)
    (Cert.RotRefIdeal.Value.run (F := Ideal) m ρ)

/-- The retention's projection: kernel and reference leave the same two arrays. -/
theorem rot_algebraic : Cert.algebraic_RotIdeal_RotRefIdeal := by
  intro m ρ m' ρ' _ hagree
  refine ⟨_, _, Cert.RotIdeal.Value.run_blocks m ρ, (θ_run _ _ _).mono (fun _ h c => ⟨(h.1 c).1.trans ?_, (h.1 c).2.trans ?_, (h.2 c).2.2⟩)
    (θ_run_and (Cert.RotRefIdeal.Hand.run_at m' ρ') (Cert.RotRefIdeal.Value.run (F := Ideal) m' ρ'))⟩
  · rw [Cert.RotIdeal.Hand.final4 m c, (hagree c).1, (hagree c).2]
  · rw [Cert.RotIdeal.Hand.final5 m c, (hagree c).1, (hagree c).2]

end Cert.Proof

end
-- ==== Proof.lean ====
/- The claims about the seven calls, assembled. The calls: the attention of the prompt (Att), the feed-forward part
   (Ffn), the merge of the branches (Merge), the attention over the retrieved text (Cross), the projection of that
   text to keys and values (Kv), the projection of the rows with the spatial gating (Mid), and that to the retention's
   queries and keys with their rotation (Rot). -/
module

public import proofs.«01_k».proof.Defs
public import proofs.«01_k».proof.Proof.Gen.Att
public import proofs.«01_k».proof.Proof.Gen.Att.Skeleton
public import proofs.«01_k».proof.Proof.Gen.Att.Launch
public import proofs.«01_k».proof.Proof.Gen.Att.Points
public import proofs.«01_k».proof.Proof.Gen.Att.Frame
public import proofs.«01_k».proof.Proof.Gen.AttIdeal
public import proofs.«01_k».proof.Proof.Gen.AttIdeal.Skeleton
public import proofs.«01_k».proof.Proof.Gen.AttIdeal.Launch
public import proofs.«01_k».proof.Proof.Gen.AttIdeal.Points
public import proofs.«01_k».proof.Proof.Gen.AttIdeal.Frame
public import proofs.«01_k».proof.Proof.Gen.AttRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Cross
public import proofs.«01_k».proof.Proof.Gen.Cross.Skeleton
public import proofs.«01_k».proof.Proof.Gen.Cross.Launch
public import proofs.«01_k».proof.Proof.Gen.Cross.Points
public import proofs.«01_k».proof.Proof.Gen.Cross.Frame
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossRefIdeal
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidRefIdeal
public import proofs.«01_k».proof.Proof.Gen.MidIdeal.Value
public import proofs.«01_k».proof.Proof.Gen.MidRefIdeal.Run
public import proofs.«01_k».proof.Proof.Gen.Rot
public import proofs.«01_k».proof.Proof.Gen.Rot.Skeleton
public import proofs.«01_k».proof.Proof.Gen.Rot.Launch
public import proofs.«01_k».proof.Proof.Gen.Rot.Points
public import proofs.«01_k».proof.Proof.Gen.Rot.Frame
public import proofs.«01_k».proof.Proof.Gen.RotIdeal
public import proofs.«01_k».proof.Proof.Gen.RotIdeal.Skeleton
public import proofs.«01_k».proof.Proof.Gen.RotIdeal.Launch
public import proofs.«01_k».proof.Proof.Gen.RotIdeal.Points
public import proofs.«01_k».proof.Proof.Gen.RotIdeal.Frame
public import proofs.«01_k».proof.Proof.Gen.RotRefIdeal
public import proofs.«01_k».proof.Proof.Gen.RotIdeal.Value
public import proofs.«01_k».proof.Proof.Gen.RotRefIdeal.Run
public import proofs.«01_k».proof.Proof.Gen.Pre_finite_qk
public import proofs.«01_k».proof.Proof.Gen.Pre_finite_scores
public import proofs.«01_k».proof.Proof.Gen.FfnIdeal.Value
public import proofs.«01_k».proof.Proof.Gen.MergeIdeal.Value
public import proofs.«01_k».proof.Proof.Gen.CrossIdeal.Value
public import proofs.«01_k».proof.Proof.Gen.KvIdeal.Value
public import proofs.«01_k».proof.Proof.Gen.FfnRefIdeal.Run
public import proofs.«01_k».proof.Proof.Gen.MergeRefIdeal.Run
public import proofs.«01_k».proof.Proof.Gen.CrossRefIdeal.Run
public import proofs.«01_k».proof.Proof.Gen.KvRefIdeal.Run
public import proofs.«01_k».proof.Proof.Gen.AttRefIdeal.Run
public import proofs.«01_k».proof.Proof.AttWords.Frame
public import proofs.«01_k».proof.Proof.AttClaim
public import proofs.«01_k».proof.Proof.FfnClaim
public import proofs.«01_k».proof.Proof.KvClaim
public import proofs.«01_k».proof.Proof.MergeClaim
public import proofs.«01_k».proof.Proof.CrossClaim
public import proofs.«01_k».proof.Proof.MidClaim
public import proofs.«01_k».proof.Proof.RotClaim
public import Idealize.ShloMosaic.Adequacy
public import Idealize.ShloMosaic.Init

@[expose] public section

noncomputable section

namespace Cert.Proof

open Idealize.ShloMosaic Idealize.SL.Sem Cert.Att

/-- Every claim of the certificate. -/
theorem claim : Cert.Claim :=
  ⟨Cert.Att.Gen.facts, Cert.AttIdeal.Gen.facts, Cert.AttRefIdeal.Gen.facts,
    Cert.Ffn.Gen.facts, Cert.FfnIdeal.Gen.facts, Cert.FfnRefIdeal.Gen.facts,
    Cert.Merge.Gen.facts, Cert.MergeIdeal.Gen.facts, Cert.MergeRefIdeal.Gen.facts,
    Cert.Cross.Gen.facts, Cert.CrossIdeal.Gen.facts, Cert.CrossRefIdeal.Gen.facts,
    Cert.Kv.Gen.facts, Cert.KvIdeal.Gen.facts, Cert.KvRefIdeal.Gen.facts,
    Cert.Mid.Gen.facts, Cert.MidIdeal.Gen.facts, Cert.MidRefIdeal.Gen.facts,
    Cert.Rot.Gen.facts, Cert.RotIdeal.Gen.facts, Cert.RotRefIdeal.Gen.facts,
    Cert.Pre_finite_qk.Gen.facts, Cert.Pre_finite_scores.Gen.facts,
    fun m ρ _ => Cert.Att.Hand.frame m ρ,
    fun m ρ _ => Cert.AttIdeal.Hand.frame m ρ,
    fun m ρ _ => Cert.AttIdeal.Hand.frame m ρ,
    attRef_frame,
    fun m ρ _ => attRef_frame m ρ trivial,
    fun m ρ _ => Cert.Ffn.Gen.frame m ρ,
    fun m ρ _ => Cert.FfnIdeal.Gen.frame m ρ,
    ffnRef_frame,
    fun m ρ _ => Cert.Merge.Gen.frame m ρ,
    fun m ρ _ => Cert.MergeIdeal.Gen.frame m ρ,
    mergeRef_frame,
    fun m ρ _ => Cert.Cross.Gen.frame m ρ,
    fun m ρ _ => Cert.CrossIdeal.Gen.frame m ρ,
    fun m ρ _ => Cert.CrossIdeal.Gen.frame m ρ,
    crossRef_frame,
    fun m ρ _ => crossRef_frame m ρ trivial,
    fun m ρ _ => Cert.Kv.Gen.frame m ρ,
    fun m ρ _ => Cert.KvIdeal.Gen.frame m ρ,
    kvRef_frame,
    fun m ρ _ => Cert.Mid.Gen.frame m ρ,
    fun m ρ _ => Cert.MidIdeal.Gen.frame m ρ,
    midRef_frame,
    fun m ρ _ => Cert.Rot.Gen.frame m ρ,
    fun m ρ _ => Cert.RotIdeal.Gen.frame m ρ,
    rotRef_frame,
    trivial, att_algebraic,
    trivial, ffn_algebraic,
    trivial, merge_algebraic,
    trivial, cross_algebraic,
    trivial, kv_algebraic,
    trivial, mid_algebraic,
    trivial, rot_algebraic⟩

end Cert.Proof

end
